-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "sixth" .f32 0x3E2AAAAB#32 ((1 / 6 : ℝ) : EReal)
  ∧ IdealRules.named_const.Statement Cert.KernelIdeal.κ "cos8" .f32 0x37D00D01#32 ((1 / 40320 : ℝ) : EReal)
  ∧ IdealRules.named_const.Statement Cert.KernelIdeal.κ "cos6" .f32 0xBAB60B61#32 ((-1 / 720 : ℝ) : EReal)
  ∧ IdealRules.named_const.Statement Cert.KernelIdeal.κ "cos4" .f32 0x3D2AAAAB#32 ((1 / 24 : ℝ) : EReal)
  ∧ IdealRules.named_const.Statement Cert.KernelIdeal.κ "sin9" .f32 0x3638EF1D#32 ((1 / 362880 : ℝ) : EReal)
  ∧ IdealRules.named_const.Statement Cert.KernelIdeal.κ "sin7" .f32 0xB9500D01#32 ((-1 / 5040 : ℝ) : EReal)
  ∧ IdealRules.named_const.Statement Cert.KernelIdeal.κ "sin5" .f32 0x3C088889#32 ((1 / 120 : ℝ) : EReal)
  ∧ IdealRules.named_const.Statement Cert.KernelIdeal.κ "sin3" .f32 0xBE2AAAAB#32 ((-1 / 6 : ℝ) : EReal)
  ∧ IdealRules.named_const.Statement Cert.KernelIdeal.κ "sqrt3" .f32 0x3FDDB3D7#32 ((Real.sqrt 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_finite_result_pre_finite [hKernelIdeal : Cert.KernelIdeal.Facts] [hPre_finite : Cert.Pre_finite.Facts] [hPost_finite_result : Cert.Post_finite_result.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_finite_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_finite_result : Cert.Post_finite_result.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_finite_result_pre_finite (hKernelIdeal := hKernelIdeal) (hPre_finite := hPre_finite) (hPost_finite_result := hPost_finite_result)
-- ==== Post_finite_result.lean ====
abbrev S32768x3x1024 : Shape := ⟨3, ![32768, 3, 1024]⟩
abbrev S1024 : Shape := ⟨1, ![1024]⟩
abbrev S_ : Shape := ⟨0, ![]⟩

class Facts : Prop where
  bcast_S_S32768x3x1024 : S_.BroadcastsInDim S32768x3x1024 (![] : Fin 0 → Fin S32768x3x1024.rank)

variable [Facts]

def fn {F : FTy → Type} [FloatOps F] (main_arg0 : FVec F S32768x3x1024 .f32) (main_arg1 : FVec F S1024 .f32) (main_arg2 : FVec F S32768x3x1024 .f32) : IVec S32768x3x1024 1 :=
  let main_v0 : FVec F S32768x3x1024 .f32 := Host.absf main_arg2
  let main_cst : FVec F S_ .f32 := constant S_ .f32 0x7F800000#32
  let main_v1 : FVec F S32768x3x1024 .f32 := broadcastInDim S32768x3x1024 ![] bcast_S_S32768x3x1024 main_cst
  let main_v2 : IVec S32768x3x1024 1 := cmpf .olt main_v0 main_v1
  main_v2
-- ==== Pre_finite.lean ====
abbrev S32768x3x1024 : Shape := ⟨3, ![32768, 3, 1024]⟩
abbrev S1024 : Shape := ⟨1, ![1024]⟩
abbrev S_ : Shape := ⟨0, ![]⟩

class Facts : Prop where
  bcast_S_S32768x3x1024 : S_.BroadcastsInDim S32768x3x1024 (![] : Fin 0 → Fin S32768x3x1024.rank)
  bcast_S_S1024 : S_.BroadcastsInDim S1024 (![] : Fin 0 → Fin S1024.rank)

variable [Facts]

def fn {F : FTy → Type} [FloatOps F] (main_arg0 : FVec F S32768x3x1024 .f32) (main_arg1 : FVec F S1024 .f32) : IVec S32768x3x1024 1 × IVec S1024 1 :=
  let main_v0 : FVec F S32768x3x1024 .f32 := Host.absf main_arg0
  let main_cst : FVec F S_ .f32 := constant S_ .f32 0x7F800000#32
  let main_v1 : FVec F S32768x3x1024 .f32 := broadcastInDim S32768x3x1024 ![] bcast_S_S32768x3x1024 main_cst
  let main_v2 : IVec S32768x3x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S32768x3x1024 : Shape := ⟨3, ![32768, 3, 1024]⟩
abbrev S1024 : Shape := ⟨1, ![1024]⟩
abbrev S3x32768x1024 : Shape := ⟨3, ![3, 32768, 1024]⟩
abbrev S1x1024 : Shape := ⟨2, ![1, 1024]⟩
abbrev S32768x1024 : Shape := ⟨2, ![32768, 1024]⟩
abbrev S32768x1x1024 : Shape := ⟨3, ![32768, 1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x8 : Shape := ⟨2, ![512, 8]⟩
abbrev S8x512 : Shape := ⟨2, ![8, 512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S32768x3x1024, .f32⟩
  | .hbm, ⟨1, _⟩ => ⟨S1024, .f32⟩
  | .hbm, ⟨2, _⟩ => ⟨S3x32768x1024, .f32⟩
  | .hbm, ⟨3, _⟩ => ⟨S1x1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1x1024, .f32⟩
  | .hbm, ⟨8, _⟩ => ⟨S32768x1x1024, .f32⟩
  | .hbm, ⟨9, _⟩ => ⟨S32768x1x1024, .f32⟩
  | .hbm, ⟨10, _⟩ => ⟨S32768x3x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S32768x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "cos4" => some ((1 / 24 : ℝ) : EReal)
  | "cos6" => some ((-1 / 720 : ℝ) : EReal)
  | "cos8" => some ((1 / 40320 : ℝ) : EReal)
  | "sin3" => some ((-1 / 6 : ℝ) : EReal)
  | "sin5" => some ((1 / 120 : ℝ) : EReal)
  | "sin7" => some ((-1 / 5040 : ℝ) : EReal)
  | "sin9" => some ((1 / 362880 : ℝ) : EReal)
  | "sixth" => some ((1 / 6 : ℝ) : EReal)
  | "sqrt3" => some ((Real.sqrt 3 : ℝ) : EReal)
  | "third" => some ((1 / 3 : ℝ) : EReal)
  | _ => none
-- ==== ReferenceIdeal.lean ====
abbrev S32768x3x1024 : Shape := ⟨3, ![32768, 3, 1024]⟩
abbrev S1024 : Shape := ⟨1, ![1024]⟩
abbrev S_ : Shape := ⟨0, ![]⟩
abbrev S32768x3 : Shape := ⟨2, ![32768, 3]⟩
abbrev S32768x3x1 : Shape := ⟨3, ![32768, 3, 1]⟩
abbrev S3 : Shape := ⟨1, ![3]⟩
abbrev S3x3 : Shape := ⟨2, ![3, 3]⟩
abbrev S3x1 : Shape := ⟨2, ![3, 1]⟩
abbrev S32768x3x3 : Shape := ⟨3, ![32768, 3, 3]⟩
abbrev S1x3x3 : Shape := ⟨3, ![1, 3, 3]⟩
abbrev S32768x1x1 : Shape := ⟨3, ![32768, 1, 1]⟩
abbrev S32768 : Shape := ⟨1, ![32768]⟩
abbrev S1x1x1024 : Shape := ⟨3, ![1, 1, 1024]⟩

abbrev nBuf : Space → Nat
  | .hbm => 359
  | .vmem => 0
  | .smem => 0
  | _ => 0

abbrev hbmTy0_0 (i : Nat) : BufTy := match i % 128 with
  | 0 => ⟨S32768x3x1024, .f32⟩
  | 1 => ⟨S1024, .f32⟩
  | 2 => ⟨S_, .f32⟩
  | 3 => ⟨S32768x3, .f32⟩
  | 4 => ⟨S32768x3x1, .f32⟩
  | 5 => ⟨S_, .f32⟩
  | 6 => ⟨S32768x3x1, .f32⟩
  | 7 => ⟨S32768x3x1, .f32⟩
  | 8 => ⟨S32768x3x1024, .f32⟩
  | 9 => ⟨S32768x3x1024, .f32⟩
  | 10 => ⟨S3, .f32⟩
  | 11 => ⟨S_, .f32⟩
  | 12 => ⟨S3, .f32⟩
  | 13 => ⟨S3, .f32⟩
  | 14 => ⟨S_, .f32⟩
  | 15 => ⟨S3, .f32⟩
  | 16 => ⟨S3x3, .i32⟩
  | 17 => ⟨S3x3, .i32⟩
  | 18 => ⟨S_, .i32⟩
  | 19 => ⟨S3x3, .i32⟩
  | 20 => ⟨S3x3, .i32⟩
  | 21 => ⟨S3x3, .i1⟩
  | 22 => ⟨S3x1, .f32⟩
  | 23 => ⟨S_, .f32⟩
  | 24 => ⟨S3x3, .f32⟩
  | 25 => ⟨S3x3, .f32⟩
  | 26 => ⟨S3x3, .f32⟩
  | 27 => ⟨S32768x3x3, .f32⟩
  | 28 => ⟨S_, .f32⟩
  | 29 => ⟨S32768x3x3, .f32⟩
  | 30 => ⟨S32768x3x3, .f32⟩
  | 31 => ⟨S_, .f32⟩
  | 32 => ⟨S3x3, .f32⟩
  | 33 => ⟨S3x3, .f32⟩
  | 34 => ⟨S1x3x3, .f32⟩
  | 35 => ⟨S32768x3x3, .f32⟩
  | 36 => ⟨S32768x3x3, .f32⟩
  | 37 => ⟨S3x3, .i32⟩
  | 38 => ⟨S3x3, .i32⟩
  | 39 => ⟨S_, .i32⟩
  | 40 => ⟨S3x3, .i32⟩
  | 41 => ⟨S3x3, .i32⟩
  | 42 => ⟨S3x3, .i1⟩
  | 43 => ⟨S3x3, .f32⟩
  | 44 => ⟨S_, .f32⟩
  | 45 => ⟨S3x3, .f32⟩
  | 46 => ⟨S3x3, .f32⟩
  | 47 => ⟨S1x3x3, .f32⟩
  | 48 => ⟨S32768x3x3, .f32⟩
  | 49 => ⟨S32768x3x3, .f32⟩
  | 50 => ⟨S32768x1x1, .f32⟩
  | 51 => ⟨S32768, .f32⟩
  | 52 => ⟨S32768x1x1, .f32⟩
  | 53 => ⟨S32768, .f32⟩
  | 54 => ⟨S32768, .f32⟩
  | 55 => ⟨S32768x1x1, .f32⟩
  | 56 => ⟨S32768, .f32⟩
  | 57 => ⟨S32768, .f32⟩
  | 58 => ⟨S_, .f32⟩
  | 59 => ⟨S32768, .f32⟩
  | 60 => ⟨S32768, .f32⟩
  | 61 => ⟨S32768x1x1, .f32⟩
  | 62 => ⟨S3x3, .i32⟩
  | 63 => ⟨S3x3, .i32⟩
  | 64 => ⟨S_, .i32⟩
  | 65 => ⟨S3x3, .i32⟩
  | 66 => ⟨S3x3, .i32⟩
  | 67 => ⟨S3x3, .i1⟩
  | 68 => ⟨S3x3, .f32⟩
  | 69 => ⟨S1x3x3, .f32⟩
  | 70 => ⟨S32768x3x3, .f32⟩
  | 71 => ⟨S32768x3x3, .f32⟩
  | 72 => ⟨S32768x3x3, .f32⟩
  | 73 => ⟨S32768x3x3, .f32⟩
  | 74 => ⟨S32768x3x3, .f32⟩
  | 75 => ⟨S_, .f32⟩
  | 76 => ⟨S32768x3, .f32⟩
  | 77 => ⟨S_, .f32⟩
  | 78 => ⟨S32768, .f32⟩
  | 79 => ⟨S_, .f32⟩
  | 80 => ⟨S32768, .f32⟩
  | 81 => ⟨S32768, .f32⟩
  | 82 => ⟨S32768, .f32⟩
  | 83 => ⟨S32768x1x1, .f32⟩
  | 84 => ⟨S32768, .f32⟩
  | 85 => ⟨S32768x1x1, .f32⟩
  | 86 => ⟨S32768, .f32⟩
  | 87 => ⟨S32768x1x1, .f32⟩
  | 88 => ⟨S32768, .f32⟩
  | 89 => ⟨S32768, .f32⟩
  | 90 => ⟨S32768x1x1, .f32⟩
  | 91 => ⟨S32768, .f32⟩
  | 92 => ⟨S32768x1x1, .f32⟩
  | 93 => ⟨S32768, .f32⟩
  | 94 => ⟨S32768, .f32⟩
  | 95 => ⟨S32768, .f32⟩
  | 96 => ⟨S32768, .f32⟩
  | 97 => ⟨S32768x1x1, .f32⟩
  | 98 => ⟨S32768, .f32⟩
  | 99 => ⟨S32768x1x1, .f32⟩
  | 100 => ⟨S32768, .f32⟩
  | 101 => ⟨S32768x1x1, .f32⟩
  | 102 => ⟨S32768, .f32⟩
  | 103 => ⟨S32768, .f32⟩
  | 104 => ⟨S32768x1x1, .f32⟩
  | 105 => ⟨S32768, .f32⟩
  | 106 => ⟨S32768x1x1, .f32⟩
  | 107 => ⟨S32768, .f32⟩
  | 108 => ⟨S32768, .f32⟩
  | 109 => ⟨S32768, .f32⟩
  | 110 => ⟨S32768, .f32⟩
  | 111 => ⟨S32768, .f32⟩
  | 112 => ⟨S32768x1x1, .f32⟩
  | 113 => ⟨S32768, .f32⟩
  | 114 => ⟨S32768x1x1, .f32⟩
  | 115 => ⟨S32768, .f32⟩
  | 116 => ⟨S32768x1x1, .f32⟩
  | 117 => ⟨S32768, .f32⟩
  | 118 => ⟨S32768, .f32⟩
  | 119 => ⟨S32768x1x1, .f32⟩
  | 120 => ⟨S32768, .f32⟩
  | 121 => ⟨S32768x1x1, .f32⟩
  | 122 => ⟨S32768, .f32⟩
  | 123 => ⟨S32768, .f32⟩
  | 124 => ⟨S32768, .f32⟩
  | 125 => ⟨S32768, .f32⟩
  | 126 => ⟨S32768, .f32⟩
  | 127 => ⟨S32768, .f32⟩
  | _ => ⟨S32768x3x1024, .f32⟩

abbrev hbmTy0_1 (i : Nat) : BufTy := match i % 128 with
  | 0 => ⟨S32768, .f32⟩
  | 1 => ⟨S_, .f32⟩
  | 2 => ⟨S32768, .f32⟩
  | 3 => ⟨S32768, .f32⟩
  | 4 => ⟨S_, .f32⟩
  | 5 => ⟨S32768, .f32⟩
  | 6 => ⟨S32768, .f32⟩
  | 7 => ⟨S32768, .f32⟩
  | 8 => ⟨S_, .f32⟩
  | 9 => ⟨S_, .f32⟩
  | 10 => ⟨S_, .f32⟩
  | 11 => ⟨S32768, .f32⟩
  | 12 => ⟨S32768, .f32⟩
  | 13 => ⟨S_, .f32⟩
  | 14 => ⟨S32768, .f32⟩
  | 15 => ⟨S32768, .f32⟩
  | 16 => ⟨S32768, .f32⟩
  | 17 => ⟨S_, .f32⟩
  | 18 => ⟨S32768, .f32⟩
  | 19 => ⟨S32768, .i1⟩
  | 20 => ⟨S32768, .f32⟩
  | 21 => ⟨S_, .f32⟩
  | 22 => ⟨S32768, .f32⟩
  | 23 => ⟨S32768, .f32⟩
  | 24 => ⟨S_, .f32⟩
  | 25 => ⟨S32768, .f32⟩
  | 26 => ⟨S32768, .f32⟩
  | 27 => ⟨S32768, .f32⟩
  | 28 => ⟨S32768, .f32⟩
  | 29 => ⟨S32768, .f32⟩
  | 30 => ⟨S_, .f32⟩
  | 31 => ⟨S32768, .f32⟩
  | 32 => ⟨S32768, .f32⟩
  | 33 => ⟨S_, .f32⟩
  | 34 => ⟨S32768, .f32⟩
  | 35 => ⟨S32768, .f32⟩
  | 36 => ⟨S32768, .f32⟩
  | 37 => ⟨S32768, .f32⟩
  | 38 => ⟨S_, .f32⟩
  | 39 => ⟨S32768, .f32⟩
  | 40 => ⟨S32768, .f32⟩
  | 41 => ⟨S32768, .f32⟩
  | 42 => ⟨S32768, .f32⟩
  | 43 => ⟨S32768, .f32⟩
  | 44 => ⟨S_, .f32⟩
  | 45 => ⟨S32768, .f32⟩
  | 46 => ⟨S32768, .f32⟩
  | 47 => ⟨S_, .f32⟩
  | 48 => ⟨S32768, .f32⟩
  | 49 => ⟨S32768, .f32⟩
  | 50 => ⟨S32768, .f32⟩
  | 51 => ⟨S_, .f32⟩
  | 52 => ⟨S32768, .f32⟩
  | 53 => ⟨S32768, .f32⟩
  | 54 => ⟨S32768, .f32⟩
  | 55 => ⟨S_, .f32⟩
  | 56 => ⟨S32768, .f32⟩
  | 57 => ⟨S32768, .f32⟩
  | 58 => ⟨S_, .f32⟩
  | 59 => ⟨S32768, .f32⟩
  | 60 => ⟨S32768, .f32⟩
  | 61 => ⟨S32768, .f32⟩
  | 62 => ⟨S_, .f32⟩
  | 63 => ⟨S32768, .f32⟩
  | 64 => ⟨S32768, .i1⟩
  | 65 => ⟨S_, .f32⟩
  | 66 => ⟨S32768, .f32⟩
  | 67 => ⟨S32768, .f32⟩
  | 68 => ⟨S32768, .f32⟩
  | 69 => ⟨S_, .f32⟩
  | 70 => ⟨S32768, .f32⟩
  | 71 => ⟨S32768, .f32⟩
  | 72 => ⟨S_, .f32⟩
  | 73 => ⟨S32768, .f32⟩
  | 74 => ⟨S32768, .f32⟩
  | 75 => ⟨S32768, .f32⟩
  | 76 => ⟨S_, .f32⟩
  | 77 => ⟨S32768, .f32⟩
  | 78 => ⟨S32768, .f32⟩
  | 79 => ⟨S_, .f32⟩
  | 80 => ⟨S32768, .f32⟩
  | 81 => ⟨S32768, .f32⟩
  | 82 => ⟨S32768, .f32⟩
  | 83 => ⟨S_, .f32⟩
  | 84 => ⟨S32768, .f32⟩
  | 85 => ⟨S32768, .f32⟩
  | 86 => ⟨S32768, .f32⟩
  | 87 => ⟨S32768, .f32⟩
  | 88 => ⟨S32768, .f32⟩
  | 89 => ⟨S_, .f32⟩
  | 90 => ⟨S32768, .f32⟩
  | 91 => ⟨S32768, .f32⟩
  | 92 => ⟨S32768, .f32⟩
  | 93 => ⟨S32768, .f32⟩
  | 94 => ⟨S32768, .f32⟩
  | 95 => ⟨S32768, .f32⟩
  | 96 => ⟨S_, .f32⟩
  | 97 => ⟨S32768, .f32⟩
  | 98 => ⟨S32768, .f32⟩
  | 99 => ⟨S32768, .f32⟩
  | 100 => ⟨S32768, .f32⟩
  | 101 => ⟨S32768, .f32⟩
  | 102 => ⟨S32768, .f32⟩
  | 103 => ⟨S_, .f32⟩
  | 104 => ⟨S32768, .f32⟩
  | 105 => ⟨S32768, .f32⟩
  | 106 => ⟨S_, .f32⟩
  | 107 => ⟨S32768, .f32⟩
  | 108 => ⟨S32768, .f32⟩
  | 109 => ⟨S32768, .f32⟩
  | 110 => ⟨S_, .f32⟩
  | 111 => ⟨S32768, .f32⟩
  | 112 => ⟨S32768, .f32⟩
  | 113 => ⟨S32768, .f32⟩
  | 114 => ⟨S32768, .f32⟩
  | 115 => ⟨S32768, .f32⟩
  | 116 => ⟨S_, .f32⟩
  | 117 => ⟨S32768, .f32⟩
  | 118 => ⟨S32768, .f32⟩
  | 119 => ⟨S32768, .f32⟩
  | 120 => ⟨S32768, .f32⟩
  | 121 => ⟨S32768, .f32⟩
  | 122 => ⟨S32768, .f32⟩
  | 123 => ⟨S_, .f32⟩
  | 124 => ⟨S32768, .f32⟩
  | 125 => ⟨S32768, .f32⟩
  | 126 => ⟨S32768, .f32⟩
  | 127 => ⟨S_, .f32⟩
  | _ => ⟨S32768x3x1024, .f32⟩

abbrev hbmTy0_2 (i : Nat) : BufTy := match i % 128 with
  | 0 => ⟨S_, .f32⟩
  | 1 => ⟨S32768, .f32⟩
  | 2 => ⟨S_, .f32⟩
  | 3 => ⟨S32768, .f32⟩
  | 4 => ⟨S32768, .f32⟩
  | 5 => ⟨S_, .f32⟩
  | 6 => ⟨S32768, .f32⟩
  | 7 => ⟨S32768, .f32⟩
  | 8 => ⟨S32768, .f32⟩
  | 9 => ⟨S_, .f32⟩
  | 10 => ⟨S32768, .f32⟩
  | 11 => ⟨S32768, .f32⟩
  | 12 => ⟨S32768, .f32⟩
  | 13 => ⟨S32768, .f32⟩
  | 14 => ⟨S32768, .f32⟩
  | 15 => ⟨S_, .f32⟩
  | 16 => ⟨S32768, .f32⟩
  | 17 => ⟨S32768, .f32⟩
  | 18 => ⟨S32768, .f32⟩
  | 19 => ⟨S32768, .f32⟩
  | 20 => ⟨S32768, .f32⟩
  | 21 => ⟨S32768, .f32⟩
  | 22 => ⟨S_, .f32⟩
  | 23 => ⟨S32768, .f32⟩
  | 24 => ⟨S32768, .f32⟩
  | 25 => ⟨S32768, .f32⟩
  | 26 => ⟨S32768, .f32⟩
  | 27 => ⟨S32768, .f32⟩
  | 28 => ⟨S32768, .f32⟩
  | 29 => ⟨S32768, .f32⟩
  | 30 => ⟨S32768, .f32⟩
  | 31 => ⟨S32768, .f32⟩
  | 32 => ⟨S32768, .f32⟩
  | 33 => ⟨S32768, .f32⟩
  | 34 => ⟨S_, .f32⟩
  | 35 => ⟨S32768, .f32⟩
  | 36 => ⟨S32768, .f32⟩
  | 37 => ⟨S32768, .f32⟩
  | 38 => ⟨S_, .f32⟩
  | 39 => ⟨S32768, .f32⟩
  | 40 => ⟨S32768, .f32⟩
  | 41 => ⟨S32768, .f32⟩
  | 42 => ⟨S_, .f32⟩
  | 43 => ⟨S32768, .f32⟩
  | 44 => ⟨S32768, .f32⟩
  | 45 => ⟨S32768, .f32⟩
  | 46 => ⟨S_, .f32⟩
  | 47 => ⟨S32768, .f32⟩
  | 48 => ⟨S32768, .f32⟩
  | 49 => ⟨S32768, .f32⟩
  | 50 => ⟨S32768, .f32⟩
  | 51 => ⟨S32768, .f32⟩
  | 52 => ⟨S_, .f32⟩
  | 53 => ⟨S32768, .f32⟩
  | 54 => ⟨S32768, .f32⟩
  | 55 => ⟨S32768, .f32⟩
  | 56 => ⟨S32768, .f32⟩
  | 57 => ⟨S32768, .f32⟩
  | 58 => ⟨S32768, .f32⟩
  | 59 => ⟨S32768, .f32⟩
  | 60 => ⟨S32768, .f32⟩
  | 61 => ⟨S32768, .f32⟩
  | 62 => ⟨S32768, .f32⟩
  | 63 => ⟨S32768, .f32⟩
  | 64 => ⟨S32768, .f32⟩
  | 65 => ⟨S32768, .f32⟩
  | 66 => ⟨S3x3, .i32⟩
  | 67 => ⟨S3x3, .i32⟩
  | 68 => ⟨S_, .i32⟩
  | 69 => ⟨S3x3, .i32⟩
  | 70 => ⟨S3x3, .i32⟩
  | 71 => ⟨S3x3, .i1⟩
  | 72 => ⟨S3x3, .f32⟩
  | 73 => ⟨S32768x1x1, .f32⟩
  | 74 => ⟨S32768x1x1, .f32⟩
  | 75 => ⟨S32768x1x1, .f32⟩
  | 76 => ⟨S32768x1x1, .f32⟩
  | 77 => ⟨S32768x1x1, .f32⟩
  | 78 => ⟨S1x3x3, .f32⟩
  | 79 => ⟨S32768x3x3, .f32⟩
  | 80 => ⟨S32768x3x3, .f32⟩
  | 81 => ⟨S32768x3x3, .f32⟩
  | 82 => ⟨S32768x3x3, .f32⟩
  | 83 => ⟨S1x3x3, .f32⟩
  | 84 => ⟨S32768x3x3, .f32⟩
  | 85 => ⟨S32768x3x3, .f32⟩
  | 86 => ⟨S32768x3x3, .f32⟩
  | 87 => ⟨S32768x3x3, .f32⟩
  | 88 => ⟨S1x3x3, .f32⟩
  | 89 => ⟨S32768x3x3, .f32⟩
  | 90 => ⟨S32768x3x3, .f32⟩
  | 91 => ⟨S32768x3x3, .f32⟩
  | 92 => ⟨S32768x3x3, .f32⟩
  | 93 => ⟨S32768x3x3, .f32⟩
  | 94 => ⟨S32768x3x3, .f32⟩
  | 95 => ⟨S32768x3x3, .f32⟩
  | 96 => ⟨S32768x3x3, .f32⟩
  | 97 => ⟨S32768x3x3, .f32⟩
  | 98 => ⟨S32768x3x3, .f32⟩
  | 99 => ⟨S32768x3x1024, .f32⟩
  | 100 => ⟨S1x1x1024, .f32⟩
  | 101 => ⟨S32768x3x1024, .f32⟩
  | 102 => ⟨S32768x3x1024, .f32⟩
  | _ => ⟨S32768x3x1024, .f32⟩

abbrev hbmTy (i : Nat) : BufTy := match i / 128 with
  | 0 => hbmTy0_0 i
  | 1 => hbmTy0_1 i
  | 2 => hbmTy0_2 i
  | _ => ⟨S32768x3x1024, .f32⟩

abbrev bufTy : (tb : Table) → Fin (tcTables nBuf tb) → BufTy
  | .hbm, ⟨i, _⟩ => hbmTy i
  | _, _ => ⟨S32768x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_10 : Ref sig .tc := ⟨.hbm, 129, rfl⟩
abbrev main_v103 : Ref sig .tc := ⟨.hbm, 130, rfl⟩
abbrev main_v104 : Ref sig .tc := ⟨.hbm, 131, rfl⟩
abbrev main_cst_11 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_12 : Ref sig .tc := ⟨.hbm, 136, rfl⟩
abbrev main_cst_13 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_v108 : Ref sig .tc := ⟨.hbm, 143, rfl⟩
abbrev main_v109 : Ref sig .tc := ⟨.hbm, 144, rfl⟩
abbrev main_cst_14 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_15 : Ref sig .tc := ⟨.hbm, 149, rfl⟩
abbrev main_v113 : Ref sig .tc := ⟨.hbm, 150, rfl⟩
abbrev main_v114 : Ref sig .tc := ⟨.hbm, 151, rfl⟩
abbrev main_cst_16 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_17 : Ref sig .tc := ⟨.hbm, 158, rfl⟩
abbrev main_v120 : Ref sig .tc := ⟨.hbm, 159, rfl⟩
abbrev main_v121 : Ref sig .tc := ⟨.hbm, 160, rfl⟩
abbrev main_cst_18 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_19 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_20 : Ref sig .tc := ⟨.hbm, 172, rfl⟩
abbrev main_v131 : Ref sig .tc := ⟨.hbm, 173, rfl⟩
abbrev main_v132 : Ref sig .tc := ⟨.hbm, 174, rfl⟩
abbrev main_cst_21 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_22 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_23 : Ref sig .tc := ⟨.hbm, 183, rfl⟩
abbrev main_v139 : Ref sig .tc := ⟨.hbm, 184, rfl⟩
abbrev main_v140 : Ref sig .tc := ⟨.hbm, 185, rfl⟩
abbrev main_cst_24 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_25 : Ref sig .tc := ⟨.hbm, 190, rfl⟩
abbrev main_v144 : Ref sig .tc := ⟨.hbm, 191, rfl⟩
abbrev main_v145 : Ref sig .tc := ⟨.hbm, 192, rfl⟩
abbrev main_cst_26 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_27 : Ref sig .tc := ⟨.hbm, 197, rfl⟩
abbrev main_v149 : Ref sig .tc := ⟨.hbm, 198, rfl⟩
abbrev main_v150 : Ref sig .tc := ⟨.hbm, 199, rfl⟩
abbrev main_cst_28 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_29 : Ref sig .tc := ⟨.hbm, 204, rfl⟩
abbrev main_v154 : Ref sig .tc := ⟨.hbm, 205, rfl⟩
abbrev main_v155 : Ref sig .tc := ⟨.hbm, 206, rfl⟩
abbrev main_cst_30 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_31 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_32 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_33 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_34 : Ref sig .tc := ⟨.hbm, 231, rfl⟩
abbrev main_v176 : Ref sig .tc := ⟨.hbm, 232, rfl⟩
abbrev main_v177 : Ref sig .tc := ⟨.hbm, 233, rfl⟩
abbrev main_cst_35 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_36 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_37 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_38 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_39 : Ref sig .tc := ⟨.hbm, 255, rfl⟩
abbrev main_v195 : Ref sig .tc := ⟨.hbm, 256, rfl⟩
abbrev main_v196 : Ref sig .tc := ⟨.hbm, 257, rfl⟩
abbrev main_cst_40 : Ref sig .tc := ⟨.hbm, 258, rfl⟩
abbrev main_v197 : Ref sig .tc := ⟨.hbm, 259, rfl⟩
abbrev main_v198 : Ref sig .tc := ⟨.hbm, 260, rfl⟩
abbrev main_cst_41 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_42 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_cst_43 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_44 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_cst_45 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_cst_46 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_47 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_48 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_49 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_c_50 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩

abbrev nD : Nat := 1
abbrev τ : Topo := Topo.v7x

variable {F : FTy → Type} [FloatOps F]
-- ==== Proof.Spec.lean ====
/-
  The mathematics both programs compute, as functions of real numbers: the centred rows, the regularized covariance
  matrix of three rows, its eigenvalues by the trigonometric formula (with a rational arccosine and Taylor
  polynomials for the cosine and the sine), and the entries of its inverse square root. Also the rules that carry
  a computation on extended reals whose operands are all finite over to the real numbers.
-/
module

public import Idealize.ShloMosaic.PureOps.Ideal.Laws

@[expose] public section

noncomputable section

namespace Cert.Whiten

open Idealize.ShloMosaic

/-! ## The float literals of the two programs, as real numbers -/

/-- The float nearest to `1e-5`: the unit of the covariance's regularization. -/
def eps : ℝ := 2748779 / 2 ^ 38
/-- The float nearest to `1e-38`: the guard of the division by the cube of the spread. -/
def tiny : ℝ := 3568119 / 2 ^ 148
/-- The float nearest to `1e-9`: the least value an eigenvalue is taken at. -/
def floorEig : ℝ := 9007199 / 2 ^ 53
/-- The coefficients of the rational arcsine's numerator. -/
def num1 : ℝ := 11184757 / 2 ^ 26
def num2 : ℝ := 5736925 / 2 ^ 27
def num3 : ℝ := 9294699 / 2 ^ 30
/-- The coefficient of the rational arcsine's denominator. -/
def den1 : ℝ := 5927639 / 2 ^ 23
/-- The float nearest to `π / 2`; the float nearest to `π` is twice it. -/
def halfPi : ℝ := 13176795 / 2 ^ 23

theorem eps_pos : 0 < eps := by unfold eps; positivity
theorem tiny_pos : 0 < tiny := by unfold tiny; positivity
theorem floorEig_pos : 0 < floorEig := by unfold floorEig; positivity

/-! ## The three elementary functions by their approximations -/

/-- The rational arcsine's correction `R z`: the arcsine of `s` is about `s + s * R (s * s)`. -/
def arcR (z : ℝ) : ℝ := z * (num1 + z * (-num2 + z * -num3)) / (1 + z * -den1)

/-- The square the rational function is taken at: of `r` itself near zero, of the half angle's sine elsewhere. -/
def arcZ (r : ℝ) : ℝ := if |r| < 1 / 2 then r * r else 1 / 2 * (1 - |r|)

/-- Its square root. -/
def arcS (r : ℝ) : ℝ := if |r| < 1 / 2 then |r| else Real.sqrt (arcZ r)

/-- The arcsine of `arcS r`. -/
def arcAsin (r : ℝ) : ℝ := arcS r + arcS r * arcR (arcZ r)

/-- The arccosine of the absolute value of `r`. -/
def arcAbs (r : ℝ) : ℝ := if |r| < 1 / 2 then halfPi - arcAsin r else 2 * arcAsin r

/-- The arccosine by the rational approximation. -/
def arccosR (r : ℝ) : ℝ := if 0 ≤ r then arcAbs r else 2 * halfPi - arcAbs r

/-- A third of the angle whose cosine is `r`. -/
def angleOf (r : ℝ) : ℝ := arccosR r * (1 / 3)

/-- The cosine's Taylor polynomial of degree 8. -/
def cosT (t : ℝ) : ℝ := 1 - t ^ 2 / 2 + t ^ 4 / 24 - t ^ 6 / 720 + t ^ 8 / 40320

/-- The sine's Taylor polynomial of degree 9. -/
def sinT (t : ℝ) : ℝ := t * (1 - t ^ 2 / 6 + t ^ 4 / 120 - t ^ 6 / 5040 + t ^ 8 / 362880)

/-! ## The eigenvalues of a symmetric 3 × 3 matrix -/

section Matrix
variable (A : Fin 3 → Fin 3 → ℝ)

/-- A third of the trace. -/
def third : ℝ := (A 0 0 + A 1 1 + A 2 2) * (1 / 3)

/-- The mean square of the entries of `A` less its mean eigenvalue, as the trigonometric formula scales it. -/
def spread2 : ℝ :=
  ((A 0 0 - third A) * (A 0 0 - third A) + (A 1 1 - third A) * (A 1 1 - third A) + (A 2 2 - third A) * (A 2 2 - third A)
    + 2 * (A 0 1 * A 0 1 + A 0 2 * A 0 2 + A 1 2 * A 1 2)) * (1 / 6)

theorem spread2_nonneg : 0 ≤ spread2 A := by
  unfold spread2; nlinarith [mul_self_nonneg (A 0 0 - third A), mul_self_nonneg (A 1 1 - third A),
    mul_self_nonneg (A 2 2 - third A), mul_self_nonneg (A 0 1), mul_self_nonneg (A 0 2), mul_self_nonneg (A 1 2)]

/-- The spread of the eigenvalues. -/
def spread : ℝ := Real.sqrt (spread2 A)

/-- The determinant of `A` less its mean eigenvalue. -/
def detK : ℝ :=
  (A 0 0 - third A) * ((A 1 1 - third A) * (A 2 2 - third A) - A 1 2 * A 1 2)
    - A 0 1 * (A 0 1 * (A 2 2 - third A) - A 1 2 * A 0 2)
    + A 0 2 * (A 0 1 * A 1 2 - (A 1 1 - third A) * A 0 2)

/-- The cosine of three times the formula's angle, clipped to the interval from `-1` to `1`. -/
def ratio : ℝ := min 1 (max (-1) (1 / 2 * detK A / max (spread A * spread A * spread A) tiny))

/-- The formula's angle. -/
def angle : ℝ := angleOf (ratio A)

/-- The greatest eigenvalue. -/
def eigHi : ℝ := third A + 2 * spread A * cosT (angle A)

/-- The least eigenvalue. -/
def eigLo : ℝ := third A - spread A * cosT (angle A) - Real.sqrt 3 * spread A * sinT (angle A)

/-- The middle eigenvalue, by the trace. -/
def eigMid : ℝ := 3 * third A - eigHi A - eigLo A

/-- The square root of an eigenvalue, the eigenvalue taken at `floorEig` at least. -/
def root (l : ℝ) : ℝ := Real.sqrt (max l floorEig)

/-- The root of the least value an eigenvalue is taken at. -/
def root0 : ℝ := Real.sqrt floorEig

theorem root0_pos : 0 < root0 := Real.sqrt_pos.2 floorEig_pos

theorem root_pos (l : ℝ) : 0 < root l := Real.sqrt_pos.2 (lt_max_of_lt_right floorEig_pos)

/-! ## The inverse square root, in Newton's form -/

/-- `1/sqrt` at the least eigenvalue. -/
def c0 : ℝ := 1 / root (eigLo A)

/-- Its first divided difference. -/
def c1 : ℝ := -1 / (root (eigLo A) * root (eigMid A) * (root (eigLo A) + root (eigMid A)))

/-- Its second divided difference. -/
def c2 : ℝ :=
  (root (eigLo A) + root (eigMid A) + root (eigHi A))
    / (root (eigLo A) * root (eigMid A) * root (eigHi A)
        * ((root (eigLo A) + root (eigMid A)) * (root (eigMid A) + root (eigHi A)) * (root (eigHi A) + root (eigLo A))))

/-- The entries of the identity matrix. -/
def delta (i j : Fin 3) : ℝ := if i = j then 1 else 0

/-- The inverse square root of `A`: the polynomial in `A` that takes `1/sqrt` at the three eigenvalues. -/
def invSqrt (i j : Fin 3) : ℝ :=
  c0 A * delta i j + c1 A * (A i j - eigLo A * delta i j)
    + c2 A * ∑ k : Fin 3, (A i k - eigLo A * delta i k) * (A k j - eigMid A * delta k j)

end Matrix

/-! ## The whole computation on three rows of length 1024 -/

section Rows
variable (Y : Fin 3 → Fin 1024 → ℝ)

/-- The rows less their means. -/
def centred (n : Fin 3) (l : Fin 1024) : ℝ := Y n l - (∑ k, Y n k) * (1 / 1024)

/-- Their covariance matrix, regularized on the diagonal by `2`, `3` and `4` times `eps`. -/
def cov (i j : Fin 3) : ℝ :=
  (∑ k, centred Y i k * centred Y j k) * (1 / 1024) + ((i : ℕ) + 2 : ℝ) * eps * delta i j

/-- The whitened rows, before the weight. -/
def white (n : Fin 3) (l : Fin 1024) : ℝ := ∑ m : Fin 3, invSqrt (cov Y) n m * centred Y m l

theorem cov_symm (i j : Fin 3) : cov Y i j = cov Y j i := by
  unfold cov delta
  rw [Finset.sum_congr rfl fun k _ => mul_comm (centred Y i k) (centred Y j k)]
  by_cases h : i = j
  · subst h; rfl
  · rw [if_neg h, if_neg (Ne.symm h)]; ring

end Rows

/-! ## The entries of the inverse square root, multiplied out -/

theorem delta_same (i : Fin 3) : delta i i = 1 := if_pos rfl
theorem delta_01 : delta 0 1 = 0 := if_neg (by decide)
theorem delta_02 : delta 0 2 = 0 := if_neg (by decide)
theorem delta_10 : delta 1 0 = 0 := if_neg (by decide)
theorem delta_12 : delta 1 2 = 0 := if_neg (by decide)
theorem delta_20 : delta 2 0 = 0 := if_neg (by decide)
theorem delta_21 : delta 2 1 = 0 := if_neg (by decide)

section Entries
variable (A : Fin 3 → Fin 3 → ℝ) (hA : ∀ i j, A i j = A j i)
include hA

theorem invSqrt_00 : invSqrt A 0 0 =
    c0 A + c1 A * (A 0 0 - eigLo A) + c2 A * (A 0 0 * A 0 0 + A 0 1 * A 0 1 + A 0 2 * A 0 2 - (eigLo A + eigMid A) * A 0 0 + eigLo A * eigMid A) := by
  simp only [invSqrt, Fin.sum_univ_three, delta_same, delta_01, delta_02, delta_12, delta_10, delta_20, delta_21,
    hA 1 0, hA 2 0, hA 2 1]; ring

theorem invSqrt_11 : invSqrt A 1 1 =
    c0 A + c1 A * (A 1 1 - eigLo A) + c2 A * (A 0 1 * A 0 1 + A 1 1 * A 1 1 + A 1 2 * A 1 2 - (eigLo A + eigMid A) * A 1 1 + eigLo A * eigMid A) := by
  simp only [invSqrt, Fin.sum_univ_three, delta_same, delta_01, delta_02, delta_12, delta_10, delta_20, delta_21,
    hA 1 0, hA 2 0, hA 2 1]; ring

theorem invSqrt_22 : invSqrt A 2 2 =
    c0 A + c1 A * (A 2 2 - eigLo A) + c2 A * (A 0 2 * A 0 2 + A 1 2 * A 1 2 + A 2 2 * A 2 2 - (eigLo A + eigMid A) * A 2 2 + eigLo A * eigMid A) := by
  simp only [invSqrt, Fin.sum_univ_three, delta_same, delta_01, delta_02, delta_12, delta_10, delta_20, delta_21,
    hA 1 0, hA 2 0, hA 2 1]; ring

theorem invSqrt_01 : invSqrt A 0 1 =
    c1 A * A 0 1 + c2 A * (A 0 0 * A 0 1 + A 0 1 * A 1 1 + A 0 2 * A 1 2 - (eigLo A + eigMid A) * A 0 1) := by
  simp only [invSqrt, Fin.sum_univ_three, delta_same, delta_01, delta_02, delta_12, delta_10, delta_20, delta_21,
    hA 1 0, hA 2 0, hA 2 1]; ring

theorem invSqrt_02 : invSqrt A 0 2 =
    c1 A * A 0 2 + c2 A * (A 0 0 * A 0 2 + A 0 1 * A 1 2 + A 0 2 * A 2 2 - (eigLo A + eigMid A) * A 0 2) := by
  simp only [invSqrt, Fin.sum_univ_three, delta_same, delta_01, delta_02, delta_12, delta_10, delta_20, delta_21,
    hA 1 0, hA 2 0, hA 2 1]; ring

theorem invSqrt_12 : invSqrt A 1 2 =
    c1 A * A 1 2 + c2 A * (A 0 1 * A 0 2 + A 1 1 * A 1 2 + A 1 2 * A 2 2 - (eigLo A + eigMid A) * A 1 2) := by
  simp only [invSqrt, Fin.sum_univ_three, delta_same, delta_01, delta_02, delta_12, delta_10, delta_20, delta_21,
    hA 1 0, hA 2 0, hA 2 1]; ring

theorem invSqrt_10 : invSqrt A 1 0 = invSqrt A 0 1 := by
  simp only [invSqrt, Fin.sum_univ_three, delta_same, delta_01, delta_02, delta_12, delta_10, delta_20, delta_21,
    hA 1 0, hA 2 0, hA 2 1]; ring

theorem invSqrt_20 : invSqrt A 2 0 = invSqrt A 0 2 := by
  simp only [invSqrt, Fin.sum_univ_three, delta_same, delta_01, delta_02, delta_12, delta_10, delta_20, delta_21,
    hA 1 0, hA 2 0, hA 2 1]; ring

theorem invSqrt_21 : invSqrt A 2 1 = invSqrt A 1 2 := by
  simp only [invSqrt, Fin.sum_univ_three, delta_same, delta_01, delta_02, delta_12, delta_10, delta_20, delta_21,
    hA 1 0, hA 2 0, hA 2 1]; ring

end Entries

/-! ## The ranges in which the divisions and the square roots are taken -/

theorem abs_ratio_le (A : Fin 3 → Fin 3 → ℝ) : |ratio A| ≤ 1 := by
  unfold ratio
  exact abs_le.2 ⟨le_min (by norm_num) (le_max_left _ _), min_le_left _ _⟩

theorem arcZ_nonneg {r : ℝ} (h : |r| ≤ 1) : 0 ≤ arcZ r := by
  unfold arcZ; split_ifs
  · exact mul_self_nonneg r
  · linarith

theorem arcZ_le {r : ℝ} : arcZ r ≤ 1 / 4 := by
  unfold arcZ; split_ifs with h
  · have := abs_mul_abs_self r; nlinarith [abs_nonneg r]
  · linarith

theorem arcDen_pos {r : ℝ} (h : |r| ≤ 1) : 0 < 1 + arcZ r * -den1 := by
  have h0 := arcZ_nonneg h
  have h1 : arcZ r ≤ 1 / 4 := arcZ_le
  have h2 : den1 < 1 := by unfold den1; norm_num
  have h3 : 0 < den1 := by unfold den1; norm_num
  nlinarith

theorem floor_max_nonneg (l : ℝ) : 0 ≤ max l floorEig := le_max_of_le_right floorEig_pos.le

/-! ## Finite extended reals -/

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem abs_coe (a : ℝ) : max (a : EReal) (-(a : EReal)) = ((|a| : ℝ) : EReal) := by
  rw [← EReal.coe_neg, max_coe]; rfl

theorem absf_coe (a : ℝ) : FloatOps.absf (F := Ideal) (φ := .f32) (a : EReal) = ((|a| : ℝ) : EReal) := abs_coe a

theorem div_coe_ne (a b : ℝ) (h : b ≠ 0) : Ideal.div (a : EReal) (b : EReal) = ((a / b : ℝ) : EReal) := by
  rw [Ideal.div_coe h, ← EReal.coe_mul, mul_one_div]

theorem sqrt_coe_nonneg (a : ℝ) (h : 0 ≤ a) : Ideal.sqrt (a : EReal) = ((Real.sqrt a : ℝ) : EReal) := by
  rw [Ideal.sqrt_coe, if_neg (not_lt.2 h)]

theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem cmp_olt_coe (a b : ℝ) : Ideal.cmp .olt (a : EReal) (b : EReal) = if a < b then 1#1 else 0#1 := by
  by_cases h : a < b
  · rw [if_pos h]; show BitVec.ofBool (decide ((a : EReal) < b)) = _
    rw [decide_eq_true (EReal.coe_lt_coe_iff.2 h)]; rfl
  · rw [if_neg h]; show BitVec.ofBool (decide ((a : EReal) < b)) = _
    rw [decide_eq_false fun h' => h (EReal.coe_lt_coe_iff.1 h')]; rfl

theorem cmp_oge_coe (a b : ℝ) : Ideal.cmp .oge (a : EReal) (b : EReal) = if b ≤ a then 1#1 else 0#1 := by
  by_cases h : b ≤ a
  · rw [if_pos h]; show BitVec.ofBool (decide ((b : EReal) ≤ a)) = _
    rw [decide_eq_true (EReal.coe_le_coe_iff.2 h)]; rfl
  · rw [if_neg h]; show BitVec.ofBool (decide ((b : EReal) ≤ a)) = _
    rw [decide_eq_false fun h' => h (EReal.coe_le_coe_iff.1 h')]; rfl

/-! ## The literals' words read as extended reals -/

theorem bits_inv1024 : Ideal.ofBits .f32 0x3A800000#32 = ((1 / 1024 : ℝ) : EReal) := by
  simp [Ideal.ofBits, Ideal.ieee, -EReal.coe_mul]; norm_num
theorem bits_eps4 : Ideal.ofBits .f32 0x3827C5AC#32 = ((4 * eps : ℝ) : EReal) := by
  unfold eps
  simp [Ideal.ofBits, Ideal.ieee, -EReal.coe_mul]; norm_num
theorem bits_eps2 : Ideal.ofBits .f32 0x37A7C5AC#32 = ((2 * eps : ℝ) : EReal) := by
  unfold eps
  simp [Ideal.ofBits, Ideal.ieee, -EReal.coe_mul]; norm_num
theorem bits_eps3 : Ideal.ofBits .f32 0x37FBA882#32 = ((3 * eps : ℝ) : EReal) := by
  unfold eps
  simp [Ideal.ofBits, Ideal.ieee, -EReal.coe_mul]; norm_num
theorem bits_eps : Ideal.ofBits .f32 0x3727C5AC#32 = ((eps : ℝ) : EReal) := by
  unfold eps
  simp [Ideal.ofBits, Ideal.ieee, -EReal.coe_mul]; norm_num
theorem bits_tiny : Ideal.ofBits .f32 0x006CE3EE#32 = ((tiny : ℝ) : EReal) := by
  unfold tiny
  simp [Ideal.ofBits, Ideal.ieee, -EReal.coe_mul]; norm_num
theorem bits_floorEig : Ideal.ofBits .f32 0x3089705F#32 = ((floorEig : ℝ) : EReal) := by
  unfold floorEig
  simp [Ideal.ofBits, Ideal.ieee, -EReal.coe_mul]; norm_num
theorem bits_num1 : Ideal.ofBits .f32 0x3E2AAA75#32 = ((num1 : ℝ) : EReal) := by
  unfold num1
  simp [Ideal.ofBits, Ideal.ieee, -EReal.coe_mul]; norm_num
theorem bits_num2 : Ideal.ofBits .f32 0x3D2F13BA#32 = ((num2 : ℝ) : EReal) := by
  unfold num2
  simp [Ideal.ofBits, Ideal.ieee, -EReal.coe_mul]; norm_num
theorem bits_negNum2 : Ideal.ofBits .f32 0xBD2F13BA#32 = ((-num2 : ℝ) : EReal) := by
  unfold num2
  simp [Ideal.ofBits, Ideal.ieee, -EReal.coe_mul]; norm_num
theorem bits_negNum3 : Ideal.ofBits .f32 0xBC0DD36B#32 = ((-num3 : ℝ) : EReal) := by
  unfold num3
  simp [Ideal.ofBits, Ideal.ieee, -EReal.coe_mul]; norm_num
theorem bits_num3 : Ideal.ofBits .f32 0x3C0DD36B#32 = ((num3 : ℝ) : EReal) := by
  unfold num3
  simp [Ideal.ofBits, Ideal.ieee, -EReal.coe_mul]; norm_num
theorem bits_negDen1 : Ideal.ofBits .f32 0xBF34E5AE#32 = ((-den1 : ℝ) : EReal) := by
  unfold den1
  simp [Ideal.ofBits, Ideal.ieee, -EReal.coe_mul]; norm_num
theorem bits_den1 : Ideal.ofBits .f32 0x3F34E5AE#32 = ((den1 : ℝ) : EReal) := by
  unfold den1
  simp [Ideal.ofBits, Ideal.ieee, -EReal.coe_mul]; norm_num
theorem bits_halfPi : Ideal.ofBits .f32 0x3FC90FDB#32 = ((halfPi : ℝ) : EReal) := by
  unfold halfPi
  simp [Ideal.ofBits, Ideal.ieee, -EReal.coe_mul]; norm_num
theorem bits_pi : Ideal.ofBits .f32 0x40490FDB#32 = ((2 * halfPi : ℝ) : EReal) := by
  unfold halfPi
  simp [Ideal.ofBits, Ideal.ieee, -EReal.coe_mul]; norm_num
theorem bits_zero : Ideal.ofBits .f32 0x00000000#32 = ((0 : ℝ) : EReal) := by
  rw [Ideal.ofBits_zero_f32, EReal.coe_zero]
theorem bits_half : Ideal.ofBits .f32 0x3F000000#32 = ((1 / 2 : ℝ) : EReal) := by
  simp [Ideal.ofBits, Ideal.ieee, -EReal.coe_mul]; norm_num
theorem bits_negHalf : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_negOne : Ideal.ofBits .f32 0xBF800000#32 = ((-1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_six : Ideal.ofBits .f32 0x40C00000#32 = ((6 : ℝ) : EReal) := by
  simp [Ideal.ofBits, Ideal.ieee, -EReal.coe_mul]; norm_num
theorem bits_n1024 : Ideal.ofBits .f32 0x44800000#32 = ((1024 : ℝ) : EReal) := by
  simp [Ideal.ofBits, Ideal.ieee, -EReal.coe_mul]; norm_num
theorem bits_n24 : Ideal.ofBits .f32 0x41C00000#32 = ((24 : ℝ) : EReal) := by
  simp [Ideal.ofBits, Ideal.ieee, -EReal.coe_mul]; norm_num
theorem bits_n120 : Ideal.ofBits .f32 0x42F00000#32 = ((120 : ℝ) : EReal) := by
  simp [Ideal.ofBits, Ideal.ieee, -EReal.coe_mul]; norm_num
theorem bits_n720 : Ideal.ofBits .f32 0x44340000#32 = ((720 : ℝ) : EReal) := by
  simp [Ideal.ofBits, Ideal.ieee, -EReal.coe_mul]; norm_num
theorem bits_n5040 : Ideal.ofBits .f32 0x459D8000#32 = ((5040 : ℝ) : EReal) := by
  simp [Ideal.ofBits, Ideal.ieee, -EReal.coe_mul]; norm_num
theorem bits_n40320 : Ideal.ofBits .f32 0x471D8000#32 = ((40320 : ℝ) : EReal) := by
  simp [Ideal.ofBits, Ideal.ieee, -EReal.coe_mul]; norm_num
theorem bits_n362880 : Ideal.ofBits .f32 0x48B13000#32 = ((362880 : ℝ) : EReal) := by
  simp [Ideal.ofBits, Ideal.ieee, -EReal.coe_mul]; norm_num

end Cert.Whiten

end
-- ==== Proof.Extended.lean ====
/-
  The computation on extended reals: the centred rows and the regularized covariance matrix of any three rows, and the
  two cases in which the rest of the computation is read. If every entry of the rows is a real number, so is every
  entry of the matrix. If an entry of the rows is infinite, the trace of the matrix is `⊤` and no entry of its diagonal
  is `⊥`: the trigonometric formula then takes the two lesser eigenvalues at `⊥` and the greatest at `⊤`.
-/
module

public import proofs.«01_k».proof.Proof.Spec

@[expose] public section

noncomputable section

namespace Cert.Whiten

open Idealize.ShloMosaic

/-! ## The computation on any three rows -/

section
variable (Z : Fin 3 → Fin 1024 → EReal)

/-- The rows less their means. -/
def centredE (n : Fin 3) (l : Fin 1024) : EReal := Z n l - (∑ k, Z n k) * ((1 / 1024 : ℝ) : EReal)

/-- Their covariance matrix, regularized on the diagonal by `2`, `3` and `4` times `eps`. -/
def covE (i j : Fin 3) : EReal :=
  (∑ k, centredE Z i k * centredE Z j k) * ((1 / 1024 : ℝ) : EReal) + ((((i : ℕ) + 2 : ℝ) * eps * delta i j : ℝ) : EReal)

/-- The inverse square root of a matrix of extended reals: of a matrix of real numbers the one of `Spec.lean`, and of a
matrix of trace `⊤` what Newton's form leaves when its second divided difference vanishes. -/
def invSqrtE (A : Fin 3 → Fin 3 → EReal) (i j : Fin 3) : EReal :=
  if A 0 0 + A 1 1 + A 2 2 = ⊤ then
    if i = j then ⊥ else ((-1 / (root0 * root0 * (root0 + root0)) : ℝ) : EReal) * A i j
  else ((invSqrt (fun i j => (A i j).toReal) i j : ℝ) : EReal)

/-- The whitened rows, before the weight. -/
def whiteE (n : Fin 3) (l : Fin 1024) : EReal := ∑ m : Fin 3, invSqrtE (covE Z) n m * centredE Z m l

theorem covE_symm (i j : Fin 3) : covE Z i j = covE Z j i := by
  unfold covE delta
  rw [Finset.sum_congr rfl fun k _ => mul_comm (centredE Z i k) (centredE Z j k)]
  by_cases h : i = j
  · subst h; rfl
  · rw [if_neg h, if_neg (Ne.symm h)]; simp

end

/-! ## Rows of real numbers -/

section
variable {Z : Fin 3 → Fin 1024 → EReal} {Y : Fin 3 → Fin 1024 → ℝ} (h : ∀ n l, Z n l = ((Y n l : ℝ) : EReal))
include h

theorem centredE_real (n : Fin 3) (l : Fin 1024) : centredE Z n l = ((centred Y n l : ℝ) : EReal) := by
  unfold centredE
  simp only [h, sum_coe, ← EReal.coe_mul, ← EReal.coe_sub]
  rfl

theorem covE_real (i j : Fin 3) : covE Z i j = ((cov Y i j : ℝ) : EReal) := by
  unfold covE
  simp only [centredE_real h, sum_coe, ← EReal.coe_mul, ← EReal.coe_add]
  rfl

end

/-! ## Matrices of real numbers -/

section
variable {M : Fin 3 → Fin 3 → EReal} {A : Fin 3 → Fin 3 → ℝ} (h : ∀ i j, M i j = ((A i j : ℝ) : EReal))
include h

theorem invSqrtE_real (i j : Fin 3) : invSqrtE M i j = ((invSqrt A i j : ℝ) : EReal) := by
  have e : (fun i j => (M i j).toReal) = A := by
    funext i j; rw [h, EReal.toReal_coe]
  unfold invSqrtE
  rw [e, if_neg]
  rw [h, h, h, ← EReal.coe_add, ← EReal.coe_add]
  exact EReal.coe_ne_top _

end

/-- On rows of real numbers the whitened rows are those of `Spec.lean`. -/
theorem whiteE_real {Z : Fin 3 → Fin 1024 → EReal} {Y : Fin 3 → Fin 1024 → ℝ} (h : ∀ n l, Z n l = ((Y n l : ℝ) : EReal))
    (n : Fin 3) (l : Fin 1024) : whiteE Z n l = ((white Y n l : ℝ) : EReal) := by
  unfold whiteE
  simp only [invSqrtE_real (covE_real h), centredE_real h, ← EReal.coe_mul, sum_coe]
  rfl

/-! ## Rows with an infinite entry -/

/-- What is used of the matrix of rows that have an infinite entry. -/
structure Unbounded (M : Fin 3 → Fin 3 → EReal) : Prop where
  trace : M 0 0 + M 1 1 + M 2 2 = ⊤
  diag : ∀ i, M i i ≠ ⊥

theorem mul_self_nonnegE (a : EReal) : 0 ≤ a * a := by
  induction a with
  | bot => simp
  | top => simp
  | coe a => rw [← EReal.coe_mul]; exact EReal.coe_nonneg.2 (mul_self_nonneg a)

theorem sub_topE (a : EReal) : a - ⊤ = ⊥ := by rw [sub_eq_add_neg, EReal.neg_top, EReal.add_bot]

theorem sub_botE {a : EReal} (h : a ≠ ⊥) : a - ⊥ = ⊤ := by
  rw [sub_eq_add_neg, EReal.neg_bot, EReal.add_top_of_ne_bot h]

theorem div_topE (a : EReal) : Ideal.div a ⊤ = 0 := by
  unfold Ideal.div
  rw [if_neg (by simp), EReal.inv_top, mul_zero]

/-- The matrix of rows of real numbers is real; the matrix of rows with an infinite entry is unbounded. -/
theorem covE_cases (Z : Fin 3 → Fin 1024 → EReal) :
    (∃ A : Fin 3 → Fin 3 → ℝ, ∀ i j, covE Z i j = ((A i j : ℝ) : EReal)) ∨ Unbounded (covE Z) := by
  by_cases h : ∀ n l, Z n l ≠ ⊤ ∧ Z n l ≠ ⊥
  · exact Or.inl ⟨_, covE_real fun n l => (EReal.coe_toReal (h n l).1 (h n l).2).symm⟩
  refine Or.inr ?_
  have hs : ∀ n, 0 ≤ ∑ k, centredE Z n k * centredE Z n k := fun n => Finset.sum_nonneg fun k _ => mul_self_nonnegE _
  have hn : ∀ i, covE Z i i ≠ ⊥ := by
    intro i
    have h1 : 0 ≤ (∑ k, centredE Z i k * centredE Z i k) * ((1 / 1024 : ℝ) : EReal) :=
      mul_nonneg (hs i) (EReal.coe_nonneg.2 (by norm_num))
    exact EReal.add_ne_bot_iff.2 ⟨ne_bot_of_le_ne_bot (by simp) h1, EReal.coe_ne_bot _⟩
  obtain ⟨n, l, h⟩ : ∃ n l, Z n l = ⊤ ∨ Z n l = ⊥ := by
    by_contra hc
    push Not at hc
    exact h fun n l => hc n l
  have hc : centredE Z n l * centredE Z n l = ⊤ := by
    have hi : centredE Z n l = ⊤ ∨ centredE Z n l = ⊥ := by
      unfold centredE
      rcases h with h | h
      · rw [h]
        induction (∑ k, Z n k) * ((1 / 1024 : ℝ) : EReal) with
        | bot => left; exact sub_botE (by simp)
        | top => right; exact sub_topE _
        | coe a => left; exact EReal.top_sub_coe a
      · rw [h, sub_eq_add_neg, EReal.bot_add]; exact Or.inr rfl
    rcases hi with hi | hi <;> rw [hi] <;> simp
  have ht : covE Z n n = ⊤ := by
    have hsum : ∑ k, centredE Z n k * centredE Z n k = ⊤ :=
      top_le_iff.1 (hc ▸ Finset.single_le_sum (f := fun k => centredE Z n k * centredE Z n k)
        (fun k _ => mul_self_nonnegE _) (Finset.mem_univ l))
    unfold covE
    rw [hsum, EReal.top_mul_coe_of_pos (by norm_num), EReal.top_add_coe]
  refine ⟨?_, hn⟩
  have h0 := hn 0
  have h1 := hn 1
  have h2 := hn 2
  match n, ht with
  | 0, ht => rw [ht, EReal.top_add_of_ne_bot h1, EReal.top_add_of_ne_bot h2]
  | 1, ht => rw [ht, EReal.add_top_of_ne_bot h0, EReal.top_add_of_ne_bot h2]
  | 2, ht => rw [ht, EReal.add_top_of_ne_bot (EReal.add_ne_bot_iff.2 ⟨h0, h1⟩)]

/-! ## The formula on an unbounded matrix

The angle is the one of ratio zero; its cosine and its sine are positive. -/

theorem angleOf_zero : angleOf 0 = halfPi * (1 / 3) := by
  unfold angleOf arccosR arcAbs arcAsin arcS
  norm_num

theorem cosT_pos : 0 < cosT (angleOf 0) := by
  rw [angleOf_zero]; unfold cosT halfPi; norm_num

theorem sinT_pos : 0 < sinT (angleOf 0) := by
  rw [angleOf_zero]; unfold sinT halfPi; norm_num

theorem sqrt_bot_floor : Ideal.sqrt (max ⊥ ((floorEig : ℝ) : EReal)) = ((root0 : ℝ) : EReal) := by
  rw [max_eq_right bot_le]
  exact sqrt_coe_nonneg _ floorEig_pos.le

theorem sqrt_top_floor : Ideal.sqrt (max ⊤ ((floorEig : ℝ) : EReal)) = ⊤ := by
  rw [max_eq_left le_top]; rfl

theorem coe_add_top (a : ℝ) : (a : EReal) + ⊤ = ⊤ := EReal.add_top_of_ne_bot (EReal.coe_ne_bot a)

/-- Any spread matrix with a diagonal of `⊥` has the square `⊤`. -/
theorem spread_top (a : EReal) (h : 0 ≤ a) : Ideal.sqrt ((⊥ * ⊥ + ⊥ * ⊥ + ⊥ * ⊥ + a) * ((1 / 6 : ℝ) : EReal)) = ⊤ := by
  rw [EReal.bot_mul_bot, EReal.top_add_top, EReal.top_add_top,
    EReal.top_add_of_ne_bot (ne_bot_of_le_ne_bot (by simp) h), EReal.top_mul_coe_of_pos (by norm_num)]
  rfl

section
variable {M : Fin 3 → Fin 3 → EReal} (h : Unbounded M)
include h

/-- The inverse square root of an unbounded matrix, on the diagonal, -/
theorem invSqrtE_diag (i : Fin 3) : invSqrtE M i i = ⊥ := by
  unfold invSqrtE; rw [if_pos h.trace, if_pos rfl]

/-- and off it. -/
theorem invSqrtE_off {i j : Fin 3} (hij : i ≠ j) :
    invSqrtE M i j = ((-1 / (root0 * root0 * (root0 + root0)) : ℝ) : EReal) * M i j := by
  unfold invSqrtE; rw [if_pos h.trace, if_neg hij]

end

/-- The inverse square root of the covariance is symmetric. -/
theorem invSqrtE_symm (Z : Fin 3 → Fin 1024 → EReal) (i j : Fin 3) :
    invSqrtE (covE Z) i j = invSqrtE (covE Z) j i := by
  rcases covE_cases Z with ⟨A, h⟩ | h
  · have hA : ∀ i j, A i j = A j i := fun i j =>
      EReal.coe_injective ((h i j).symm.trans ((covE_symm Z i j).trans (h j i)))
    rw [invSqrtE_real h, invSqrtE_real h]
    have e := invSqrt_10 A hA
    have e' := invSqrt_20 A hA
    have e'' := invSqrt_21 A hA
    fin_cases i <;> fin_cases j <;> simp_all
  · by_cases hij : i = j
    · rw [hij]
    · rw [invSqrtE_off h hij, invSqrtE_off h (Ne.symm hij), covE_symm Z i j]

theorem diff_neg : -1 / (root0 * root0 * (root0 + root0)) < 0 :=
  div_neg_of_neg_of_pos (by norm_num) (by have := root0_pos; positivity)

end Cert.Whiten

end
-- ==== Proof.Block.lean ====
/-
  The kernel's body on one block, at one row. The centred vectors and the covariance's entries that the body binds are,
  at that row, those of `Extended.lean` of the row's three vectors, whatever the vectors. Where the covariance is real,
  each further value is the corresponding quantity of `Spec.lean`; where it is unbounded, it is the value that
  `Extended.lean` names. The three blocks the body stores are the three whitened vectors times the weight.
-/
module

public import proofs.«01_k».proof.Proof.Extended
public import proofs.«01_k».proof.Proof.Gen.KernelIdeal.Frame
public import Idealize.ShloMosaic.Lib.Pointwise
public import Idealize.ShloMosaic.PureOps.IdealRules

@[expose] public section

set_option maxRecDepth 16384

noncomputable section

namespace Cert.KernelIdeal.Block

open Cert.KernelIdeal Cert.KernelIdeal.Gen Cert.Whiten Idealize.ShloMosaic

/-! ## The named constants' values -/

theorem named_third : Named.named (F := Ideal) (φ := .f32) κ "third" 0x3EAAAAAB#32 = ((1 / 3 : ℝ) : EReal) :=
  IdealRules.named_const.ideal_named_scalar _ _ _ _ rfl
theorem named_sixth : Named.named (F := Ideal) (φ := .f32) κ "sixth" 0x3E2AAAAB#32 = ((1 / 6 : ℝ) : EReal) :=
  IdealRules.named_const.ideal_named_scalar _ _ _ _ rfl
theorem named_sqrt3 : Named.named (F := Ideal) (φ := .f32) κ "sqrt3" 0x3FDDB3D7#32 = ((Real.sqrt 3 : ℝ) : EReal) :=
  IdealRules.named_const.ideal_named_scalar _ _ _ _ rfl
theorem named_cos4 : Named.named (F := Ideal) (φ := .f32) κ "cos4" 0x3D2AAAAB#32 = ((1 / 24 : ℝ) : EReal) :=
  IdealRules.named_const.ideal_named_scalar _ _ _ _ rfl
theorem named_cos6 : Named.named (F := Ideal) (φ := .f32) κ "cos6" 0xBAB60B61#32 = ((-1 / 720 : ℝ) : EReal) :=
  IdealRules.named_const.ideal_named_scalar _ _ _ _ rfl
theorem named_cos8 : Named.named (F := Ideal) (φ := .f32) κ "cos8" 0x37D00D01#32 = ((1 / 40320 : ℝ) : EReal) :=
  IdealRules.named_const.ideal_named_scalar _ _ _ _ rfl
theorem named_sin3 : Named.named (F := Ideal) (φ := .f32) κ "sin3" 0xBE2AAAAB#32 = ((-1 / 6 : ℝ) : EReal) :=
  IdealRules.named_const.ideal_named_scalar _ _ _ _ rfl
theorem named_sin5 : Named.named (F := Ideal) (φ := .f32) κ "sin5" 0x3C088889#32 = ((1 / 120 : ℝ) : EReal) :=
  IdealRules.named_const.ideal_named_scalar _ _ _ _ rfl
theorem named_sin7 : Named.named (F := Ideal) (φ := .f32) κ "sin7" 0xB9500D01#32 = ((-1 / 5040 : ℝ) : EReal) :=
  IdealRules.named_const.ideal_named_scalar _ _ _ _ rfl
theorem named_sin9 : Named.named (F := Ideal) (φ := .f32) κ "sin9" 0x3638EF1D#32 = ((1 / 362880 : ℝ) : EReal) :=
  IdealRules.named_const.ideal_named_scalar _ _ _ _ rfl

/-! ## The centred vectors and the covariance, whatever the vectors -/

section
variable (x0 x1 x2 : Vec Ideal S1x512x1024 .f32) (x3 : Vec Ideal S1x1024 .f32)

/-- The three vectors of row `r`. -/
def rows (r : Fin 512) (n : Fin 3) (l : Fin 1024) : EReal :=
  match n with
  | 0 => x0 (ix3 0 r l)
  | 1 => x1 (ix3 0 r l)
  | 2 => x2 (ix3 0 r l)

variable {x0 x1 x2} (r : Fin 512)

/-- The centred vector number 0 of the row. -/
theorem pay58 : ∀ l : Fin 1024, k0_pay58 x0 x1 x2 x3 (ix2 r l) = centredE (rows x0 x1 x2 r) 0 l := by
  intro l
  unfold k0_pay58
  pointwise [k0_pay1]
  simp only [View.ld_unit_zero, bits_inv1024]
  rfl

/-- The centred vector number 1 of the row. -/
theorem pay59 : ∀ l : Fin 1024, k0_pay59 x0 x1 x2 x3 (ix2 r l) = centredE (rows x0 x1 x2 r) 1 l := by
  intro l
  unfold k0_pay59
  pointwise [k0_pay2]
  simp only [View.ld_unit_zero, bits_inv1024]
  rfl

/-- The centred vector number 2 of the row. -/
theorem pay60 : ∀ l : Fin 1024, k0_pay60 x0 x1 x2 x3 (ix2 r l) = centredE (rows x0 x1 x2 r) 2 l := by
  intro l
  unfold k0_pay60
  pointwise [k0_pay3]
  simp only [View.ld_unit_zero, bits_inv1024]
  rfl

/-- The covariance's first diagonal entry. -/
theorem pay61 : k0_pay61 x0 x1 x2 x3 (ix2 r 0) = covE (rows x0 x1 x2 r) 0 0 := by
  unfold k0_pay61
  pointwise [k0_pay4]
  have e : ∀ l, k0_pay1 (View.ld x0 r0_0) (ix2 r l) = centredE (rows x0 x1 x2 r) 0 l := pay58 x3 r
  simp only [e, bits_inv1024, bits_eps2]
  unfold covE delta; norm_num

/-- Its second. -/
theorem pay62 : k0_pay62 x0 x1 x2 x3 (ix2 r 0) = covE (rows x0 x1 x2 r) 1 1 := by
  unfold k0_pay62
  pointwise [k0_pay5]
  have e : ∀ l, k0_pay2 (View.ld x1 r0_0) (ix2 r l) = centredE (rows x0 x1 x2 r) 1 l := pay59 x3 r
  simp only [e, bits_inv1024, bits_eps3]
  unfold covE delta; norm_num

/-- Entry (0, 0) of the covariance, moved to the lanes. -/
theorem pay63 : k0_pay63 x0 x1 x2 x3 (ix2 0 r) = covE (rows x0 x1 x2 r) 0 0 := by
  unfold k0_pay63
  pointwise [k0_pay7, k0_pay6]
  exact pay61 x3 r

/-- Entry (1, 1) of the covariance, moved to the lanes. -/
theorem pay64 : k0_pay64 x0 x1 x2 x3 (ix2 0 r) = covE (rows x0 x1 x2 r) 1 1 := by
  unfold k0_pay64
  pointwise [k0_pay8, k0_pay6]
  exact pay62 x3 r

/-- Entry (2, 2) of the covariance. -/
theorem pay65 : k0_pay65 x0 x1 x2 x3 (ix2 0 r) = covE (rows x0 x1 x2 r) 2 2 := by
  unfold k0_pay65
  pointwise [k0_pay9, k0_pay6]
  simp only [pay58 x3 r, pay59 x3 r, pay60 x3 r, bits_inv1024, bits_eps4]
  unfold covE; rw [delta_same]; norm_num

/-- Entry (0, 1) of the covariance. -/
theorem pay66 : k0_pay66 x0 x1 x2 x3 (ix2 0 r) = covE (rows x0 x1 x2 r) 0 1 := by
  unfold k0_pay66
  pointwise [k0_pay10, k0_pay6]
  simp only [pay58 x3 r, pay59 x3 r, pay60 x3 r, bits_inv1024]
  unfold covE; rw [delta_01]; norm_num

/-- Entry (0, 2) of the covariance. -/
theorem pay67 : k0_pay67 x0 x1 x2 x3 (ix2 0 r) = covE (rows x0 x1 x2 r) 0 2 := by
  unfold k0_pay67
  pointwise [k0_pay11, k0_pay6]
  simp only [pay58 x3 r, pay59 x3 r, pay60 x3 r, bits_inv1024]
  unfold covE; rw [delta_02]; norm_num

/-- Entry (1, 2) of the covariance. -/
theorem pay68 : k0_pay68 x0 x1 x2 x3 (ix2 0 r) = covE (rows x0 x1 x2 r) 1 2 := by
  unfold k0_pay68
  pointwise [k0_pay12, k0_pay6]
  simp only [pay58 x3 r, pay59 x3 r, pay60 x3 r, bits_inv1024]
  unfold covE; rw [delta_12]; norm_num

end

/-! ## The angle, from the cosine of three times it -/

section
variable {x0 x1 x2 : Vec Ideal S1x512x1024 .f32} (x3 : Vec Ideal S1x1024 .f32) {r : Fin 512} {ρ : ℝ}
variable (g : k0_pay76 x0 x1 x2 x3 (ix2 0 r) = (ρ : EReal) ∧ |ρ| ≤ 1)
include g

/-- Whether the clipped cosine is near zero. -/
theorem pay77 : k0_pay77 x0 x1 x2 x3 (ix2 0 r) = if |ρ| < 1 / 2 then 1#1 else 0#1 := by
  have e76 := g.1
  unfold k0_pay76 at e76
  unfold k0_pay77
  pointwise [k0_pay22, k0_pay21]
  rw [e76, bits_half, absf_coe]
  exact cmp_olt_coe _ _

/-- The square the rational function is taken at. -/
theorem pay78 : k0_pay78 x0 x1 x2 x3 (ix2 0 r) = ((arcZ ρ : ℝ) : EReal) := by
  have e76 := g.1
  have e77 := pay77 x3 g
  unfold k0_pay76 at e76; unfold k0_pay77 at e77
  unfold k0_pay78
  pointwise [k0_pay23, k0_pay21]
  rw [e77, e76, bits_half, absf_coe]
  unfold arcZ Scalar.select
  by_cases hr : |ρ| < 1 / 2
  · simp only [if_pos hr, ← EReal.coe_mul]
    exact if_pos rfl
  · simp only [if_neg hr, ← EReal.coe_one, ← EReal.coe_mul, ← EReal.coe_add, ← EReal.coe_sub, sum_coe]
    rfl

/-- Its square root. -/
theorem pay79 : k0_pay79 x0 x1 x2 x3 (ix2 0 r) = ((arcS ρ : ℝ) : EReal) := by
  have e76 := g.1
  have e77 := pay77 x3 g
  have e78 := pay78 x3 g
  unfold k0_pay76 at e76; unfold k0_pay77 at e77; unfold k0_pay78 at e78
  unfold k0_pay79
  pointwise [k0_pay24, k0_pay21]
  rw [e77, e78, e76, absf_coe, sqrt_coe_nonneg _ (arcZ_nonneg (g.2))]
  unfold arcS Scalar.select
  by_cases hr : |ρ| < 1 / 2
  · simp only [if_pos hr]
    exact if_pos rfl
  · simp only [if_neg hr]
    rfl

/-- The rational arcsine's numerator. -/
theorem pay80 : k0_pay80 x0 x1 x2 x3 (ix2 0 r) = ((arcZ ρ * (num1 + arcZ ρ * (-num2 + arcZ ρ * -num3)) : ℝ) : EReal) := by
  have e78 := pay78 x3 g
  unfold k0_pay78 at e78
  unfold k0_pay80
  pointwise [k0_pay25]
  rw [e78, bits_negNum3, bits_negNum2, bits_num1]
  simp only [← EReal.coe_mul, ← EReal.coe_add, ← EReal.coe_sub, sum_coe]

/-- The angle. -/
theorem pay81 : k0_pay81 x0 x1 x2 x3 (ix2 0 r) = ((angleOf ρ : ℝ) : EReal) := by
  unfold k0_pay81
  pointwise [k0_pay26]
  rw [g.1, pay77 x3 g, pay78 x3 g, pay79 x3 g, pay80 x3 g, bits_negDen1, bits_halfPi, bits_pi, bits_two,
    named_third]
  simp only [← EReal.coe_one, ← EReal.coe_zero, EReal.coe_le_coe_iff, ← EReal.coe_mul, ← EReal.coe_add, ← EReal.coe_sub, sum_coe]
  rw [div_coe_ne _ _ (ne_of_gt (arcDen_pos (g.2)))]
  unfold angleOf arccosR arcAbs arcAsin arcR Scalar.select
  simp only [← EReal.coe_mul, ← EReal.coe_add, ← EReal.coe_sub, sum_coe]
  split_ifs <;> simp_all [← EReal.coe_mul, ← EReal.coe_add, ← EReal.coe_sub]

/-- The cosine of the angle. -/
theorem pay82 : k0_pay82 x0 x1 x2 x3 (ix2 0 r) = ((cosT (angleOf ρ) : ℝ) : EReal) := by
  have e := pay81 x3 g
  unfold k0_pay81 at e
  pointwise at e
  unfold k0_pay82
  pointwise [k0_pay28, k0_pay27]
  rw [e, named_cos8, named_cos6, named_cos4, bits_negHalf]
  simp only [← EReal.coe_one, ← EReal.coe_mul, ← EReal.coe_add, ← EReal.coe_sub, sum_coe]
  congr 1; unfold cosT; ring

/-- The sine of the angle, from the sum the body binds. -/
theorem pay83 : ((angleOf ρ : ℝ) : EReal) * (1 + k0_pay83 x0 x1 x2 x3 (ix2 0 r)) = ((sinT (angleOf ρ) : ℝ) : EReal) := by
  have e := pay81 x3 g
  unfold k0_pay81 at e
  pointwise at e
  unfold k0_pay83
  pointwise [k0_pay29, k0_pay27]
  rw [e, named_sin9, named_sin7, named_sin5, named_sin3]
  simp only [← EReal.coe_one, ← EReal.coe_mul, ← EReal.coe_add, ← EReal.coe_sub, sum_coe]
  congr 1; unfold sinT; ring

end

/-! ## The rows whose covariance is real -/

section
variable {x0 x1 x2 : Vec Ideal S1x512x1024 .f32} (x3 : Vec Ideal S1x1024 .f32) {r : Fin 512} {A : Fin 3 → Fin 3 → ℝ}
variable (h : ∀ i j, covE (rows x0 x1 x2 r) i j = ((A i j : ℝ) : EReal))
include h

omit x3 in
/-- The real matrix is symmetric. -/
theorem symm (i j : Fin 3) : A i j = A j i :=
  EReal.coe_injective ((h i j).symm.trans ((covE_symm _ i j).trans (h j i)))

theorem real63 : k0_pay63 x0 x1 x2 x3 (ix2 0 r) = ((A 0 0 : ℝ) : EReal) := (pay63 x3 r).trans (h 0 0)
theorem real64 : k0_pay64 x0 x1 x2 x3 (ix2 0 r) = ((A 1 1 : ℝ) : EReal) := (pay64 x3 r).trans (h 1 1)
theorem real65 : k0_pay65 x0 x1 x2 x3 (ix2 0 r) = ((A 2 2 : ℝ) : EReal) := (pay65 x3 r).trans (h 2 2)
theorem real66 : k0_pay66 x0 x1 x2 x3 (ix2 0 r) = ((A 0 1 : ℝ) : EReal) := (pay66 x3 r).trans (h 0 1)
theorem real67 : k0_pay67 x0 x1 x2 x3 (ix2 0 r) = ((A 0 2 : ℝ) : EReal) := (pay67 x3 r).trans (h 0 2)
theorem real68 : k0_pay68 x0 x1 x2 x3 (ix2 0 r) = ((A 1 2 : ℝ) : EReal) := (pay68 x3 r).trans (h 1 2)

/-- A third of the trace. -/
theorem real69 : k0_pay69 x0 x1 x2 x3 (ix2 0 r) = ((third A : ℝ) : EReal) := by
  unfold k0_pay69
  pointwise [k0_pay13]
  have e0 := real63 x3 h
  have e1 := real64 x3 h
  have e2 := real65 x3 h
  unfold k0_pay63 at e0; unfold k0_pay64 at e1; unfold k0_pay65 at e2
  simp only [e0, e1, e2, named_third, ← EReal.coe_mul, ← EReal.coe_add, ← EReal.coe_sub, sum_coe]
  rfl

theorem real70 : k0_pay70 x0 x1 x2 x3 (ix2 0 r) = ((A 0 0 - third A : ℝ) : EReal) := by
  unfold k0_pay70
  pointwise [k0_pay14]
  have e0 := real63 x3 h
  have e1 := real69 x3 h
  unfold k0_pay63 at e0; unfold k0_pay69 at e1
  simp only [e0, e1, ← EReal.coe_mul, ← EReal.coe_add, ← EReal.coe_sub, sum_coe]

theorem real71 : k0_pay71 x0 x1 x2 x3 (ix2 0 r) = ((A 1 1 - third A : ℝ) : EReal) := by
  unfold k0_pay71
  pointwise [k0_pay15]
  have e0 := real64 x3 h
  have e1 := real69 x3 h
  unfold k0_pay64 at e0; unfold k0_pay69 at e1
  simp only [e0, e1, ← EReal.coe_mul, ← EReal.coe_add, ← EReal.coe_sub, sum_coe]

theorem real72 : k0_pay72 x0 x1 x2 x3 (ix2 0 r) = ((A 2 2 - third A : ℝ) : EReal) := by
  unfold k0_pay72
  pointwise [k0_pay16]
  have e0 := real65 x3 h
  have e1 := real69 x3 h
  unfold k0_pay65 at e0; unfold k0_pay69 at e1
  simp only [e0, e1, ← EReal.coe_mul, ← EReal.coe_add, ← EReal.coe_sub, sum_coe]

/-- The spread of the eigenvalues. -/
theorem real75 : k0_pay75 x0 x1 x2 x3 (ix2 0 r) = ((spread A : ℝ) : EReal) := by
  unfold k0_pay75 k0_pay73 k0_pay74
  pointwise [k0_pay19, k0_pay17, k0_pay18]
  have e0 := real70 x3 h
  have e1 := real71 x3 h
  have e2 := real72 x3 h
  have e3 := real66 x3 h
  have e4 := real67 x3 h
  have e5 := real68 x3 h
  unfold k0_pay70 at e0; unfold k0_pay71 at e1; unfold k0_pay72 at e2
  unfold k0_pay66 at e3; unfold k0_pay67 at e4; unfold k0_pay68 at e5
  simp only [e0, e1, e2, e3, e4, e5, bits_two, named_sixth, ← EReal.coe_mul, ← EReal.coe_add, ← EReal.coe_sub, sum_coe]
  exact sqrt_coe_nonneg _ (spread2_nonneg _)

/-- The cosine of three times the angle, clipped. -/
theorem real76 : k0_pay76 x0 x1 x2 x3 (ix2 0 r) = ((ratio A : ℝ) : EReal) := by
  have e75 := real75 x3 h
  unfold k0_pay75 at e75
  unfold k0_pay76
  pointwise [k0_pay20]
  simp only [e75, real66 x3 h, real67 x3 h, real68 x3 h, real70 x3 h, real71 x3 h, real72 x3 h, bits_tiny, bits_half,
    bits_negOne, ← EReal.coe_one, ← EReal.coe_mul, ← EReal.coe_add, ← EReal.coe_sub, sum_coe, max_coe]
  rw [div_coe_ne _ _ (ne_of_gt (lt_max_of_lt_right tiny_pos)), max_coe, min_coe]
  rfl

/-- The clipped ratio is a real number of absolute value at most one. -/
theorem realRatio : k0_pay76 x0 x1 x2 x3 (ix2 0 r) = ((ratio A : ℝ) : EReal) ∧ |ratio A| ≤ 1 :=
  ⟨real76 x3 h, abs_ratio_le _⟩

/-- The greatest eigenvalue. -/
theorem real_hi : k0_pay30 (k0_pay69 x0 x1 x2 x3) (k0_pay75 x0 x1 x2 x3) (k0_pay82 x0 x1 x2 x3) (ix2 0 r) = ((eigHi A : ℝ) : EReal) := by
  pointwise [k0_pay30]
  rw [real69 x3 h, real75 x3 h, pay82 x3 (realRatio x3 h), bits_two]
  simp only [← EReal.coe_mul, ← EReal.coe_add, ← EReal.coe_sub, sum_coe]
  rfl

/-- The least eigenvalue. -/
theorem real84 : k0_pay84 x0 x1 x2 x3 (ix2 0 r) = ((eigLo A : ℝ) : EReal) := by
  unfold k0_pay84
  pointwise [k0_pay31]
  rw [pay81 x3 (realRatio x3 h), pay83 x3 (realRatio x3 h), real69 x3 h, real75 x3 h, pay82 x3 (realRatio x3 h), named_sqrt3]
  simp only [← EReal.coe_mul, ← EReal.coe_add, ← EReal.coe_sub, sum_coe]
  rfl

/-- The middle eigenvalue. -/
theorem real85 : k0_pay85 x0 x1 x2 x3 (ix2 0 r) = ((eigMid A : ℝ) : EReal) := by
  have e := real84 x3 h
  unfold k0_pay84 at e
  pointwise at e
  unfold k0_pay85
  pointwise [k0_pay32]
  rw [e, real_hi x3 h, real69 x3 h, bits_three]
  simp only [← EReal.coe_mul, ← EReal.coe_add, ← EReal.coe_sub, sum_coe]
  rfl

/-- The square root of the least eigenvalue. -/
theorem real_root_lo : k0_pay33 (k0_pay69 x0 x1 x2 x3) (k0_pay75 x0 x1 x2 x3) (k0_pay81 x0 x1 x2 x3) (k0_pay82 x0 x1 x2 x3) (k0_pay83 x0 x1 x2 x3) (Scalar.ofBits .f32 0x3F800000#32) (ix2 0 r) = ((root (eigLo A) : ℝ) : EReal) := by
  have e := real84 x3 h
  unfold k0_pay84 at e
  pointwise [k0_pay33]
  pointwise at e
  rw [e, bits_floorEig, max_coe]
  exact sqrt_coe_nonneg _ (floor_max_nonneg _)

/-- The square root of the middle eigenvalue. -/
theorem real_root_mid : k0_pay34 (k0_pay69 x0 x1 x2 x3) (k0_pay75 x0 x1 x2 x3) (k0_pay81 x0 x1 x2 x3) (k0_pay82 x0 x1 x2 x3) (k0_pay83 x0 x1 x2 x3) (Scalar.ofBits .f32 0x3F800000#32) (ix2 0 r) = ((root (eigMid A) : ℝ) : EReal) := by
  have e := real85 x3 h
  unfold k0_pay85 at e
  pointwise [k0_pay34]
  pointwise at e
  rw [e, bits_floorEig, max_coe]
  exact sqrt_coe_nonneg _ (floor_max_nonneg _)

/-- The first coefficient of Newton's form. -/
theorem real86 : k0_pay86 x0 x1 x2 x3 (ix2 0 r) = ((c0 A : ℝ) : EReal) := by
  have e1 := real_root_lo x3 h
  have p1 := root_pos (eigLo A)
  have p2 := root_pos (eigMid A)
  have p3 := root_pos (eigHi A)
  unfold k0_pay86
  pointwise [k0_pay35]
  pointwise at e1
  rw [e1, ← EReal.coe_one, div_coe_ne _ _ p1.ne']
  rfl

/-- The second coefficient. -/
theorem real87 : k0_pay87 x0 x1 x2 x3 (ix2 0 r) = ((c1 A : ℝ) : EReal) := by
  have e1 := real_root_lo x3 h
  have e2 := real_root_mid x3 h
  have p1 := root_pos (eigLo A)
  have p2 := root_pos (eigMid A)
  have p3 := root_pos (eigHi A)
  unfold k0_pay87
  pointwise [k0_pay36]
  pointwise at e1
  pointwise at e2
  rw [e1, e2, bits_negOne]
  simp only [← EReal.coe_mul, ← EReal.coe_add, ← EReal.coe_sub, sum_coe]
  rw [div_coe_ne _ _ (by positivity)]
  rfl

/-- The third coefficient. -/
theorem real88 : k0_pay88 x0 x1 x2 x3 (ix2 0 r) = ((c2 A : ℝ) : EReal) := by
  have e1 := real_root_lo x3 h
  have e2 := real_root_mid x3 h
  have e3 := real_hi x3 h
  have p1 := root_pos (eigLo A)
  have p2 := root_pos (eigMid A)
  have p3 := root_pos (eigHi A)
  unfold k0_pay88
  pointwise [k0_pay37]
  pointwise at e1
  pointwise at e2
  rw [e1, e2, e3, bits_floorEig, max_coe, sqrt_coe_nonneg _ (floor_max_nonneg _)]
  change Ideal.div (_ + ((root (eigHi A) : ℝ) : EReal)) _ = _
  simp only [← EReal.coe_mul, ← EReal.coe_add, ← EReal.coe_sub, sum_coe]
  rw [div_coe_ne _ _ (by positivity)]
  rfl

/-- Entry (0, 0) of the inverse square root. -/
theorem real90 : k0_pay90 x0 x1 x2 x3 (ix2 0 r) = ((invSqrt A 0 0 : ℝ) : EReal) := by
  unfold k0_pay90
  pointwise [k0_pay43, k0_pay41, k0_pay42, k0_pay38]
  rw [real63 x3 h, real66 x3 h, real67 x3 h, real84 x3 h, real85 x3 h, real86 x3 h, real87 x3 h, real88 x3 h]
  simp only [← EReal.coe_mul, ← EReal.coe_add, ← EReal.coe_sub, sum_coe]
  rw [invSqrt_00 _ (symm h)]

/-- Entry (1, 1) of the inverse square root. -/
theorem real91 : k0_pay91 x0 x1 x2 x3 (ix2 0 r) = ((invSqrt A 1 1 : ℝ) : EReal) := by
  unfold k0_pay91
  pointwise [k0_pay44, k0_pay41, k0_pay42, k0_pay39]
  rw [real64 x3 h, real66 x3 h, real68 x3 h, real84 x3 h, real85 x3 h, real86 x3 h, real87 x3 h, real88 x3 h]
  simp only [← EReal.coe_mul, ← EReal.coe_add, ← EReal.coe_sub, sum_coe]
  rw [invSqrt_11 _ (symm h)]

/-- Entry (2, 2) of the inverse square root. -/
theorem real92 : k0_pay92 x0 x1 x2 x3 (ix2 0 r) = ((invSqrt A 2 2 : ℝ) : EReal) := by
  unfold k0_pay92
  pointwise [k0_pay45, k0_pay41, k0_pay42]
  rw [real65 x3 h, real67 x3 h, real68 x3 h, real84 x3 h, real85 x3 h, real86 x3 h, real87 x3 h, real88 x3 h]
  simp only [← EReal.coe_mul, ← EReal.coe_add, ← EReal.coe_sub, sum_coe]
  rw [invSqrt_22 _ (symm h)]

/-- Entry (0, 1) of the inverse square root. -/
theorem real93 : k0_pay93 x0 x1 x2 x3 (ix2 0 r) = ((invSqrt A 0 1 : ℝ) : EReal) := by
  unfold k0_pay93
  pointwise [k0_pay46, k0_pay41]
  rw [real63 x3 h, real64 x3 h, real66 x3 h, real67 x3 h, real68 x3 h, real84 x3 h, real85 x3 h, real87 x3 h, real88 x3 h]
  simp only [← EReal.coe_mul, ← EReal.coe_add, ← EReal.coe_sub, sum_coe]
  rw [invSqrt_01 _ (symm h)]

/-- Entry (0, 2) of the inverse square root. -/
theorem real94 : k0_pay94 x0 x1 x2 x3 (ix2 0 r) = ((invSqrt A 0 2 : ℝ) : EReal) := by
  unfold k0_pay94
  pointwise [k0_pay47, k0_pay41]
  rw [real63 x3 h, real65 x3 h, real66 x3 h, real67 x3 h, real68 x3 h, real84 x3 h, real85 x3 h, real87 x3 h, real88 x3 h]
  simp only [← EReal.coe_mul, ← EReal.coe_add, ← EReal.coe_sub, sum_coe]
  rw [invSqrt_02 _ (symm h)]

/-- Entry (1, 2), as the body's last part puts it together. -/
theorem real_entry12 : k0_pay95 x0 x1 x2 x3 (ix2 0 r) + k0_pay88 x0 x1 x2 x3 (ix2 0 r) * (k0_pay89 x0 x1 x2 x3 (ix2 0 r) - k0_pay96 x0 x1 x2 x3 (ix2 0 r)) = ((invSqrt A 1 2 : ℝ) : EReal) := by
  unfold k0_pay95 k0_pay96 k0_pay89
  pointwise [k0_pay48, k0_pay49, k0_pay41, k0_pay40]
  rw [real64 x3 h, real65 x3 h, real66 x3 h, real67 x3 h, real68 x3 h, real84 x3 h, real85 x3 h, real87 x3 h, real88 x3 h]
  simp only [← EReal.coe_mul, ← EReal.coe_add, ← EReal.coe_sub, sum_coe]
  rw [invSqrt_12 _ (symm h)]

end

/-! ## The rows whose covariance is unbounded -/

section
variable {x0 x1 x2 : Vec Ideal S1x512x1024 .f32} (x3 : Vec Ideal S1x1024 .f32) {r : Fin 512}
variable (h : Unbounded (covE (rows x0 x1 x2 r)))
include h

/-- A third of the trace is `⊤`, -/
theorem far69 : k0_pay69 x0 x1 x2 x3 (ix2 0 r) = ⊤ := by
  unfold k0_pay69
  pointwise [k0_pay13]
  have e0 := pay63 (x0 := x0) (x1 := x1) (x2 := x2) x3 r
  have e1 := pay64 (x0 := x0) (x1 := x1) (x2 := x2) x3 r
  have e2 := pay65 (x0 := x0) (x1 := x1) (x2 := x2) x3 r
  unfold k0_pay63 at e0; unfold k0_pay64 at e1; unfold k0_pay65 at e2
  rw [e0, e1, e2, named_third, h.trace]
  exact EReal.top_mul_coe_of_pos (by norm_num)

/-- so the diagonal less it is `⊥`. -/
theorem far70 : k0_pay70 x0 x1 x2 x3 (ix2 0 r) = ⊥ := by
  unfold k0_pay70
  pointwise [k0_pay14]
  have e := far69 x3 h
  unfold k0_pay69 at e
  rw [e]
  exact sub_topE _

theorem far71 : k0_pay71 x0 x1 x2 x3 (ix2 0 r) = ⊥ := by
  unfold k0_pay71
  pointwise [k0_pay15]
  have e := far69 x3 h
  unfold k0_pay69 at e
  rw [e]
  exact sub_topE _

theorem far72 : k0_pay72 x0 x1 x2 x3 (ix2 0 r) = ⊥ := by
  unfold k0_pay72
  pointwise [k0_pay16]
  have e := far69 x3 h
  unfold k0_pay69 at e
  rw [e]
  exact sub_topE _

/-- The spread is `⊤`. -/
theorem far75 : k0_pay75 x0 x1 x2 x3 (ix2 0 r) = ⊤ := by
  unfold k0_pay75 k0_pay73 k0_pay74
  pointwise [k0_pay19, k0_pay17, k0_pay18]
  have e0 := far70 x3 h
  have e1 := far71 x3 h
  have e2 := far72 x3 h
  unfold k0_pay70 at e0; unfold k0_pay71 at e1; unfold k0_pay72 at e2
  rw [e0, e1, e2, bits_two, named_sixth]
  exact spread_top _ (mul_nonneg (EReal.coe_nonneg.2 (by norm_num))
    (add_nonneg (add_nonneg (mul_self_nonnegE _) (mul_self_nonnegE _)) (mul_self_nonnegE _)))

/-- The clipped ratio is zero. -/
theorem far76 : k0_pay76 x0 x1 x2 x3 (ix2 0 r) = ((0 : ℝ) : EReal) ∧ |(0 : ℝ)| ≤ 1 := by
  refine ⟨?_, by norm_num⟩
  have e75 := far75 x3 h
  unfold k0_pay75 at e75
  unfold k0_pay76
  pointwise [k0_pay20]
  rw [e75, bits_tiny, bits_negOne, EReal.top_mul_top, EReal.top_mul_top, max_eq_left le_top, div_topE,
    ← EReal.coe_zero, ← EReal.coe_one, max_coe, min_coe]
  norm_num

/-- The greatest eigenvalue is taken at `⊤`, -/
theorem far_hi : k0_pay30 (k0_pay69 x0 x1 x2 x3) (k0_pay75 x0 x1 x2 x3) (k0_pay82 x0 x1 x2 x3) (ix2 0 r) = ⊤ := by
  pointwise [k0_pay30]
  rw [far69 x3 h, far75 x3 h, pay82 x3 (far76 x3 h), bits_two, EReal.coe_mul_top_of_pos (by norm_num),
    EReal.top_mul_coe_of_pos cosT_pos, EReal.top_add_top]

/-- the least at `⊥`, -/
theorem far84 : k0_pay84 x0 x1 x2 x3 (ix2 0 r) = ⊥ := by
  unfold k0_pay84
  pointwise [k0_pay31]
  rw [pay81 x3 (far76 x3 h), pay83 x3 (far76 x3 h), far69 x3 h, far75 x3 h, pay82 x3 (far76 x3 h), named_sqrt3,
    EReal.coe_mul_top_of_pos (Real.sqrt_pos.2 (by norm_num)), EReal.top_mul_coe_of_pos cosT_pos,
    EReal.top_mul_coe_of_pos sinT_pos]
  exact sub_topE _

/-- and the middle one at `⊥`. -/
theorem far85 : k0_pay85 x0 x1 x2 x3 (ix2 0 r) = ⊥ := by
  have e := far84 x3 h
  unfold k0_pay84 at e
  pointwise at e
  unfold k0_pay85
  pointwise [k0_pay32]
  rw [e, far_hi x3 h, far69 x3 h, bits_three, sub_topE, sub_eq_add_neg, EReal.bot_add]

/-- The square root of the least eigenvalue. -/
theorem far_root_lo : k0_pay33 (k0_pay69 x0 x1 x2 x3) (k0_pay75 x0 x1 x2 x3) (k0_pay81 x0 x1 x2 x3) (k0_pay82 x0 x1 x2 x3) (k0_pay83 x0 x1 x2 x3) (Scalar.ofBits .f32 0x3F800000#32) (ix2 0 r) = ((root0 : ℝ) : EReal) := by
  have e := far84 x3 h
  unfold k0_pay84 at e
  pointwise [k0_pay33]
  pointwise at e
  rw [e, bits_floorEig]
  exact sqrt_bot_floor

/-- The square root of the middle eigenvalue. -/
theorem far_root_mid : k0_pay34 (k0_pay69 x0 x1 x2 x3) (k0_pay75 x0 x1 x2 x3) (k0_pay81 x0 x1 x2 x3) (k0_pay82 x0 x1 x2 x3) (k0_pay83 x0 x1 x2 x3) (Scalar.ofBits .f32 0x3F800000#32) (ix2 0 r) = ((root0 : ℝ) : EReal) := by
  have e := far85 x3 h
  unfold k0_pay85 at e
  pointwise [k0_pay34]
  pointwise at e
  rw [e, bits_floorEig]
  exact sqrt_bot_floor

/-- The first coefficient of Newton's form. -/
theorem far86 : k0_pay86 x0 x1 x2 x3 (ix2 0 r) = ((1 / root0 : ℝ) : EReal) := by
  have e1 := far_root_lo x3 h
  unfold k0_pay86
  pointwise [k0_pay35]
  pointwise at e1
  rw [e1, ← EReal.coe_one, div_coe_ne _ _ root0_pos.ne']

/-- The second coefficient. -/
theorem far87 : k0_pay87 x0 x1 x2 x3 (ix2 0 r) = ((-1 / (root0 * root0 * (root0 + root0)) : ℝ) : EReal) := by
  have e1 := far_root_lo x3 h
  have e2 := far_root_mid x3 h
  have p := root0_pos
  unfold k0_pay87
  pointwise [k0_pay36]
  pointwise at e1
  pointwise at e2
  rw [e1, e2, bits_negOne]
  simp only [← EReal.coe_mul, ← EReal.coe_add]
  rw [div_coe_ne _ _ (by positivity)]

/-- The third coefficient vanishes. -/
theorem far88 : k0_pay88 x0 x1 x2 x3 (ix2 0 r) = 0 := by
  have e1 := far_root_lo x3 h
  have e2 := far_root_mid x3 h
  have e3 := far_hi x3 h
  have p := root0_pos
  unfold k0_pay88
  pointwise [k0_pay37]
  pointwise at e1
  pointwise at e2
  rw [e1, e2, e3, bits_floorEig, sqrt_top_floor]
  refine (congrArg (Ideal.div _) ?_).trans (div_topE _)
  rw [← EReal.coe_mul, ← EReal.coe_add, coe_add_top, EReal.top_add_coe, EReal.coe_mul_top_of_pos (by positivity),
    EReal.coe_mul_top_of_pos (by positivity), EReal.top_mul_top, EReal.top_mul_top]

/-- Entry (0, 0) of the inverse square root. -/
theorem far90 : k0_pay90 x0 x1 x2 x3 (ix2 0 r) = invSqrtE (covE (rows x0 x1 x2 r)) 0 0 := by
  unfold k0_pay90
  pointwise [k0_pay43, k0_pay41, k0_pay42, k0_pay38]
  rw [pay63 x3 r, far84 x3 h, far86 x3 h, far87 x3 h, far88 x3 h, zero_mul, add_zero, sub_botE (h.diag 0),
    EReal.coe_mul_top_of_neg diff_neg, EReal.add_bot, invSqrtE_diag h]

/-- Entry (1, 1) of the inverse square root. -/
theorem far91 : k0_pay91 x0 x1 x2 x3 (ix2 0 r) = invSqrtE (covE (rows x0 x1 x2 r)) 1 1 := by
  unfold k0_pay91
  pointwise [k0_pay44, k0_pay41, k0_pay42, k0_pay39]
  rw [pay64 x3 r, far84 x3 h, far86 x3 h, far87 x3 h, far88 x3 h, zero_mul, add_zero, sub_botE (h.diag 1),
    EReal.coe_mul_top_of_neg diff_neg, EReal.add_bot, invSqrtE_diag h]

/-- Entry (2, 2) of the inverse square root. -/
theorem far92 : k0_pay92 x0 x1 x2 x3 (ix2 0 r) = invSqrtE (covE (rows x0 x1 x2 r)) 2 2 := by
  unfold k0_pay92
  pointwise [k0_pay45, k0_pay41, k0_pay42]
  rw [pay65 x3 r, far84 x3 h, far86 x3 h, far87 x3 h, far88 x3 h, zero_mul, add_zero, sub_botE (h.diag 2),
    EReal.coe_mul_top_of_neg diff_neg, EReal.add_bot, invSqrtE_diag h]

/-- Entry (0, 1) of the inverse square root. -/
theorem far93 : k0_pay93 x0 x1 x2 x3 (ix2 0 r) = invSqrtE (covE (rows x0 x1 x2 r)) 0 1 := by
  unfold k0_pay93
  pointwise [k0_pay46, k0_pay41]
  rw [pay66 x3 r, far87 x3 h, far88 x3 h, zero_mul, add_zero, invSqrtE_off h (by decide)]

/-- Entry (0, 2) of the inverse square root. -/
theorem far94 : k0_pay94 x0 x1 x2 x3 (ix2 0 r) = invSqrtE (covE (rows x0 x1 x2 r)) 0 2 := by
  unfold k0_pay94
  pointwise [k0_pay47, k0_pay41]
  rw [pay67 x3 r, far87 x3 h, far88 x3 h, zero_mul, add_zero, invSqrtE_off h (by decide)]

/-- Entry (1, 2), as the body's last part puts it together. -/
theorem far_entry12 : k0_pay95 x0 x1 x2 x3 (ix2 0 r) + k0_pay88 x0 x1 x2 x3 (ix2 0 r) * (k0_pay89 x0 x1 x2 x3 (ix2 0 r) - k0_pay96 x0 x1 x2 x3 (ix2 0 r)) = invSqrtE (covE (rows x0 x1 x2 r)) 1 2 := by
  unfold k0_pay95
  pointwise [k0_pay48]
  rw [pay68 x3 r, far87 x3 h, far88 x3 h, zero_mul, add_zero, invSqrtE_off h (by decide)]

end

/-! ## The stored blocks, whatever the vectors -/

section
variable {x0 x1 x2 : Vec Ideal S1x512x1024 .f32} (x3 : Vec Ideal S1x1024 .f32) (r : Fin 512)

/-- Entry (0, 0) of the inverse square root. -/
theorem entry90 : k0_pay90 x0 x1 x2 x3 (ix2 0 r) = invSqrtE (covE (rows x0 x1 x2 r)) 0 0 := by
  rcases covE_cases (rows x0 x1 x2 r) with ⟨A, h⟩ | h
  · exact (real90 x3 h).trans (invSqrtE_real h 0 0).symm
  · exact far90 x3 h

/-- Entry (1, 1) of the inverse square root. -/
theorem entry91 : k0_pay91 x0 x1 x2 x3 (ix2 0 r) = invSqrtE (covE (rows x0 x1 x2 r)) 1 1 := by
  rcases covE_cases (rows x0 x1 x2 r) with ⟨A, h⟩ | h
  · exact (real91 x3 h).trans (invSqrtE_real h 1 1).symm
  · exact far91 x3 h

/-- Entry (2, 2) of the inverse square root. -/
theorem entry92 : k0_pay92 x0 x1 x2 x3 (ix2 0 r) = invSqrtE (covE (rows x0 x1 x2 r)) 2 2 := by
  rcases covE_cases (rows x0 x1 x2 r) with ⟨A, h⟩ | h
  · exact (real92 x3 h).trans (invSqrtE_real h 2 2).symm
  · exact far92 x3 h

/-- Entry (0, 1) of the inverse square root. -/
theorem entry93 : k0_pay93 x0 x1 x2 x3 (ix2 0 r) = invSqrtE (covE (rows x0 x1 x2 r)) 0 1 := by
  rcases covE_cases (rows x0 x1 x2 r) with ⟨A, h⟩ | h
  · exact (real93 x3 h).trans (invSqrtE_real h 0 1).symm
  · exact far93 x3 h

/-- Entry (0, 2) of the inverse square root. -/
theorem entry94 : k0_pay94 x0 x1 x2 x3 (ix2 0 r) = invSqrtE (covE (rows x0 x1 x2 r)) 0 2 := by
  rcases covE_cases (rows x0 x1 x2 r) with ⟨A, h⟩ | h
  · exact (real94 x3 h).trans (invSqrtE_real h 0 2).symm
  · exact far94 x3 h

/-- Entry (1, 2), as the body's last part puts it together. -/
theorem entry12 : k0_pay95 x0 x1 x2 x3 (ix2 0 r) + k0_pay88 x0 x1 x2 x3 (ix2 0 r) * (k0_pay89 x0 x1 x2 x3 (ix2 0 r) - k0_pay96 x0 x1 x2 x3 (ix2 0 r)) = invSqrtE (covE (rows x0 x1 x2 r)) 1 2 := by
  rcases covE_cases (rows x0 x1 x2 r) with ⟨A, h⟩ | h
  · exact (real_entry12 x3 h).trans (invSqrtE_real h 1 2).symm
  · exact far_entry12 x3 h

/-- The stored block number 0: the whitened vector times the weight. -/
theorem out0 : ∀ l : Fin 1024, k0_pay55 (k0_pay58 x0 x1 x2 x3) (k0_pay59 x0 x1 x2 x3) (k0_pay60 x0 x1 x2 x3) (k0_pay88 x0 x1 x2 x3) (k0_pay89 x0 x1 x2 x3) (k0_pay90 x0 x1 x2 x3) (k0_pay91 x0 x1 x2 x3) (k0_pay92 x0 x1 x2 x3) (k0_pay93 x0 x1 x2 x3) (k0_pay94 x0 x1 x2 x3) (k0_pay95 x0 x1 x2 x3) (k0_pay96 x0 x1 x2 x3) x3 (ix2 r l) = whiteE (rows x0 x1 x2 r) 0 l * x3 (ix2 0 l) := by
  intro l
  pointwise [k0_pay55, k0_pay54, k0_pay53, k0_pay52, k0_pay51, k0_pay50]
  simp only [entry12 x3 r, entry90 x3 r, entry91 x3 r, entry92 x3 r, entry93 x3 r, entry94 x3 r, pay58 x3 r, pay59 x3 r, pay60 x3 r]
  rw [whiteE, Fin.sum_univ_three]
  try rw [invSqrtE_symm (rows x0 x1 x2 r) 1 0]
  try rw [invSqrtE_symm (rows x0 x1 x2 r) 2 0]
  try rw [invSqrtE_symm (rows x0 x1 x2 r) 2 1]

/-- The stored block number 1: the whitened vector times the weight. -/
theorem out1 : ∀ l : Fin 1024, k0_pay56 (k0_pay58 x0 x1 x2 x3) (k0_pay59 x0 x1 x2 x3) (k0_pay60 x0 x1 x2 x3) (k0_pay88 x0 x1 x2 x3) (k0_pay89 x0 x1 x2 x3) (k0_pay90 x0 x1 x2 x3) (k0_pay91 x0 x1 x2 x3) (k0_pay92 x0 x1 x2 x3) (k0_pay93 x0 x1 x2 x3) (k0_pay94 x0 x1 x2 x3) (k0_pay95 x0 x1 x2 x3) (k0_pay96 x0 x1 x2 x3) x3 (ix2 r l) = whiteE (rows x0 x1 x2 r) 1 l * x3 (ix2 0 l) := by
  intro l
  pointwise [k0_pay56, k0_pay54, k0_pay53, k0_pay52, k0_pay51, k0_pay50]
  simp only [entry12 x3 r, entry90 x3 r, entry91 x3 r, entry92 x3 r, entry93 x3 r, entry94 x3 r, pay58 x3 r, pay59 x3 r, pay60 x3 r]
  rw [whiteE, Fin.sum_univ_three]
  try rw [invSqrtE_symm (rows x0 x1 x2 r) 1 0]
  try rw [invSqrtE_symm (rows x0 x1 x2 r) 2 0]
  try rw [invSqrtE_symm (rows x0 x1 x2 r) 2 1]

/-- The stored block number 2: the whitened vector times the weight. -/
theorem out2 : ∀ l : Fin 1024, k0_pay57 (k0_pay58 x0 x1 x2 x3) (k0_pay59 x0 x1 x2 x3) (k0_pay60 x0 x1 x2 x3) (k0_pay88 x0 x1 x2 x3) (k0_pay89 x0 x1 x2 x3) (k0_pay90 x0 x1 x2 x3) (k0_pay91 x0 x1 x2 x3) (k0_pay92 x0 x1 x2 x3) (k0_pay93 x0 x1 x2 x3) (k0_pay94 x0 x1 x2 x3) (k0_pay95 x0 x1 x2 x3) (k0_pay96 x0 x1 x2 x3) x3 (ix2 r l) = whiteE (rows x0 x1 x2 r) 2 l * x3 (ix2 0 l) := by
  intro l
  pointwise [k0_pay57, k0_pay54, k0_pay53, k0_pay52, k0_pay51, k0_pay50]
  simp only [entry12 x3 r, entry90 x3 r, entry91 x3 r, entry92 x3 r, entry93 x3 r, entry94 x3 r, pay58 x3 r, pay59 x3 r, pay60 x3 r]
  rw [whiteE, Fin.sum_univ_three]
  try rw [invSqrtE_symm (rows x0 x1 x2 r) 1 0]
  try rw [invSqrtE_symm (rows x0 x1 x2 r) 2 0]
  try rw [invSqrtE_symm (rows x0 x1 x2 r) 2 1]

end

end Cert.KernelIdeal.Block

end
-- ==== Proof.Arrays.lean ====
/-
  The kernel's run, read: the three arrays the region writes hold, batch by batch, the three whitened vectors times the
  weight, and the result buffer holds them stacked.
-/
module

public import proofs.«01_k».proof.Proof.Block
public import Idealize.ShloMosaic.Lib.Pipeline.Value
public import Idealize.ShloMosaic.Lib.Quiescent
public import Idealize.ShloMosaic.Lib.StableHlo.ReadAt

@[expose] public section

set_option maxRecDepth 16384

noncomputable section

namespace Cert.KernelIdeal.Arrays

open Cert.KernelIdeal Cert.KernelIdeal.Gen Cert.KernelIdeal.Block Cert.Whiten
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The input vectors of device `c`. -/
abbrev xin : Vec Ideal S32768x3x1024 .f32 := m ((c : Thread nD τ).loc main_arg0)
/-- The weight of device `c`. -/
abbrev win : Vec Ideal S1024 .f32 := m ((c : Thread nD τ).loc main_arg1)

/-- The three vectors of batch `b`. -/
def batchRows (x : Vec Ideal S32768x3x1024 .f32) (b : Fin 32768) (n : Fin 3) (l : Fin 1024) : EReal := x (ix3 b n l)

/-! ## What the region reads -/

/-- The first array of the region is the input with its first two dimensions exchanged. -/
theorem V_planes (n : Fin 3) (b : Fin 32768) (l : Fin 1024) :
    V m c main_call0_v0 (ix3 n b l) = xin m c (ix3 b n l) := by
  unfold V V0
  after_reads_at

/-- The second array of the region is the weight as one row. -/
theorem V_weight (l : Fin 1024) : V m c main_call0_v1 (ix2 0 l) = win m c (ix1 l) := by
  unfold V V0
  after_reads_at

/-- The block indices of the windows at every point. -/
theorem idx_facts : ∀ t : Fin grid0.N,
    (win0_0.index t 0 * win0_0.size 0 = 0 ∧ win0_0.index t 1 * win0_0.size 1 = t.val * 512 ∧ win0_0.index t 2 * win0_0.size 2 = 0)
    ∧ (win0_1.index t 0 * win0_1.size 0 = 1 ∧ win0_1.index t 1 * win0_1.size 1 = t.val * 512 ∧ win0_1.index t 2 * win0_1.size 2 = 0)
    ∧ (win0_2.index t 0 * win0_2.size 0 = 2 ∧ win0_2.index t 1 * win0_2.size 1 = t.val * 512 ∧ win0_2.index t 2 * win0_2.size 2 = 0)
    ∧ (win0_3.index t 0 * win0_3.size 0 = 0 ∧ win0_3.index t 1 * win0_3.size 1 = 0)
    ∧ (win0_4.index t 0 * win0_4.size 0 = t.val * 512 ∧ win0_4.index t 1 * win0_4.size 1 = 0)
    ∧ (win0_5.index t 0 * win0_5.size 0 = t.val * 512 ∧ win0_5.index t 1 * win0_5.size 1 = 0)
    ∧ (win0_6.index t 0 * win0_6.size 0 = t.val * 512 ∧ win0_6.index t 1 * win0_6.size 1 = 0) := by
  decide +kernel

/-- The windows' blocks are whole at every point. -/
theorem xsize_facts : ∀ t : Fin grid0.N,
    (win0_4.xsize (grid0.coords t) 0 = 512 ∧ win0_4.xsize (grid0.coords t) 1 = 1024)
    ∧ (win0_5.xsize (grid0.coords t) 0 = 512 ∧ win0_5.xsize (grid0.coords t) 1 = 1024)
    ∧ (win0_6.xsize (grid0.coords t) 0 = 512 ∧ win0_6.xsize (grid0.coords t) 1 = 1024) := by
  decide +kernel

/-- The batch that row `r` of point `t`'s blocks is. -/
def batch (t : Fin cfg0.N) (r : Fin 512) : Fin 32768 :=
  ⟨t.val * 512 + r.val, by have h := t.isLt; have hN : cfg0.N = 64 := N_0; omega⟩

/-- Plane 0's block at point `t`. -/
theorem iblk_0 (t : Fin cfg0.N) (r : Fin 512) (l : Fin 1024) :
    (iblk m c 0 t : Vec Ideal S1x512x1024 .f32) (ix3 0 r l) = xin m c (ix3 (batch t r) 0 l) := by
  rw [← V_planes]
  have h := (idx_facts t).1
  obtain ⟨h0, h1, h2⟩ := h
  show V m c main_call0_v0 _ = _
  congr 1
  funext a
  apply Fin.ext
  match a with
  | ⟨0, _⟩ => show win0_0.index t 0 * win0_0.size 0 + 1 * 0 = 0; omega
  | ⟨1, _⟩ => show win0_0.index t 1 * win0_0.size 1 + 1 * r.val = t.val * 512 + r.val; omega
  | ⟨2, _⟩ => show win0_0.index t 2 * win0_0.size 2 + 1 * l.val = l.val; omega

/-- Plane 1's block at point `t`. -/
theorem iblk_1 (t : Fin cfg0.N) (r : Fin 512) (l : Fin 1024) :
    (iblk m c 1 t : Vec Ideal S1x512x1024 .f32) (ix3 0 r l) = xin m c (ix3 (batch t r) 1 l) := by
  rw [← V_planes]
  have h := (idx_facts t).2.1
  obtain ⟨h0, h1, h2⟩ := h
  show V m c main_call0_v0 _ = _
  congr 1
  funext a
  apply Fin.ext
  match a with
  | ⟨0, _⟩ => show win0_1.index t 0 * win0_1.size 0 + 1 * 0 = 1; omega
  | ⟨1, _⟩ => show win0_1.index t 1 * win0_1.size 1 + 1 * r.val = t.val * 512 + r.val; omega
  | ⟨2, _⟩ => show win0_1.index t 2 * win0_1.size 2 + 1 * l.val = l.val; omega

/-- Plane 2's block at point `t`. -/
theorem iblk_2 (t : Fin cfg0.N) (r : Fin 512) (l : Fin 1024) :
    (iblk m c 2 t : Vec Ideal S1x512x1024 .f32) (ix3 0 r l) = xin m c (ix3 (batch t r) 2 l) := by
  rw [← V_planes]
  have h := (idx_facts t).2.2.1
  obtain ⟨h0, h1, h2⟩ := h
  show V m c main_call0_v0 _ = _
  congr 1
  funext a
  apply Fin.ext
  match a with
  | ⟨0, _⟩ => show win0_2.index t 0 * win0_2.size 0 + 1 * 0 = 2; omega
  | ⟨1, _⟩ => show win0_2.index t 1 * win0_2.size 1 + 1 * r.val = t.val * 512 + r.val; omega
  | ⟨2, _⟩ => show win0_2.index t 2 * win0_2.size 2 + 1 * l.val = l.val; omega

/-- The weight's block at point `t` is the weight. -/
theorem iblk_3 (t : Fin cfg0.N) (l : Fin 1024) :
    (iblk m c 3 t : Vec Ideal S1x1024 .f32) (ix2 0 l) = win m c (ix1 l) := by
  rw [← V_weight]
  obtain ⟨h0, h1⟩ := (idx_facts t).2.2.2.1
  show V m c main_call0_v1 _ = _
  congr 1
  funext a
  apply Fin.ext
  match a with
  | ⟨0, _⟩ => show win0_3.index t 0 * win0_3.size 0 + 1 * 0 = 0; omega
  | ⟨1, _⟩ => show win0_3.index t 1 * win0_3.size 1 + 1 * l.val = l.val; omega

/-- The vectors of row `r` of point `t`'s blocks are those of the batch. -/
theorem rows_blocks (t : Fin cfg0.N) (r : Fin 512) :
    rows (iblk m c 0 t) (iblk m c 1 t) (iblk m c 2 t) r = batchRows (xin m c) (batch t r) := by
  funext n l
  match n with
  | 0 => exact iblk_0 m c t r l
  | 1 => exact iblk_1 m c t r l
  | 2 => exact iblk_2 m c t r l

/-! ## What the region writes -/

/-- The array of whitened vectors number `n`, times the weight: what the region's array number `n` is shown to hold. -/
def whitened (x : Vec Ideal S32768x3x1024 .f32) (w : Vec Ideal S1024 .f32) (n : Fin 3) : Vec Ideal S32768x1024 .f32 :=
  fun i => whiteE (batchRows x (i 0)) n (i 1) * w (ix1 (i 1))

theorem hz2 : (![0, 0] : Fin 2 → Nat) = fun _ => 0 := funext fun a => by fin_cases a <;> rfl

/-- What point `t` writes into array 0 is its block of the whitened vectors. -/
theorem flushed_4 (t : Fin cfg0.N) :
    (dats m 0 c).flushed 4 t = (win0_4.blk t).view.read (Elt Ideal) (whitened (xin m c) (win m c) 0) := by
  show (cfg0.win 4).cut (grid0.coords t) ((dats m 0 c).after 4 t) = _
  rw [after0_4]
  unfold out0_4
  rw [View.canon_unit_zero hz2, View.ld_unit_zero hz2]
  funext (i : S512x1024.Idx)
  obtain ⟨h0, h1⟩ := (idx_facts t).2.2.2.2.1
  have h := (out0 (x0 := iblk m c 0 t) (x1 := iblk m c 1 t) (x2 := iblk m c 2 t) (iblk m c 3 t) (i 0) (i 1)).trans
    (congrArg₂ (fun Z w => whiteE Z 0 (i 1) * w) (rows_blocks m c t (i 0)) (iblk_3 m c t (i 1)))
  have hi : (ix2 (i 0) (i 1) : S512x1024.Idx) = i := funext fun a => by match a with | ⟨0, _⟩ => rfl | ⟨1, _⟩ => rfl
  rw [hi] at h
  have e : (win0_4.rect t).emb i = ix2 (batch t (i 0)) (i 1) := by
    funext a
    apply Fin.ext
    match a with
    | ⟨0, _⟩ => show win0_4.index t 0 * win0_4.size 0 + 1 * (i 0).val = t.val * 512 + (i 0).val; omega
    | ⟨1, _⟩ => show win0_4.index t 1 * win0_4.size 1 + 1 * (i 1).val = (i 1).val; omega
  show _ = whitened (xin m c) (win m c) 0 ((win0_4.rect t).emb i)
  rw [e]
  exact h

/-- An index of array 0 is in point `t`'s block exactly when its batch is one of the point's. -/
theorem mem_blk_4 (t : Fin cfg0.N) (i : S32768x1024.Idx) :
    i ∈ ((cfg0.win 4).blk t).view.set ↔ t.val * 512 ≤ (i 0 : Nat) ∧ (i 0 : Nat) < t.val * 512 + 512 := by
  show i ∈ ((View.whole main_call0_v2_0).slice (win0_4.rect t)).set ↔ _
  rw [View.set_slice_whole, Rect.mem_set_unit]
  have hi1 : (i 1 : Nat) < 1024 := (i 1).isLt
  obtain ⟨h0, h1⟩ := (idx_facts t).2.2.2.2.1
  obtain ⟨s0, s1⟩ := (xsize_facts t).1
  refine ⟨fun h => ?_, fun h a => ?_⟩
  · have : win0_4.index t 0 * win0_4.size 0 ≤ (i 0 : Nat)
        ∧ (i 0 : Nat) < win0_4.index t 0 * win0_4.size 0 + win0_4.xsize (grid0.coords t) 0 := h 0
    rw [h0, s0] at this; exact this
  · match a with
    | ⟨0, _⟩ =>
      show win0_4.index t 0 * win0_4.size 0 ≤ (i 0 : Nat)
        ∧ (i 0 : Nat) < win0_4.index t 0 * win0_4.size 0 + win0_4.xsize (grid0.coords t) 0
      rw [h0, s0]; exact h
    | ⟨1, _⟩ =>
      show win0_4.index t 1 * win0_4.size 1 ≤ (i 1 : Nat)
        ∧ (i 1 : Nat) < win0_4.index t 1 * win0_4.size 1 + win0_4.xsize (grid0.coords t) 1
      rw [h1, s1]; omega

/-- The points' blocks tile array 0. -/
theorem cover_4 (i : S32768x1024.Idx) :
    ∃ t : Fin cfg0.N, (cfg0.win 4).flush t = true ∧ i ∈ ((cfg0.win 4).blk t).view.set := by
  have hi : (i 0 : Nat) < 32768 := (i 0).isLt
  have hN : cfg0.N = 64 := N_0
  have ht : (i 0 : Nat) / 512 < cfg0.N := by omega
  refine ⟨⟨(i 0 : Nat) / 512, ht⟩, flush0_4 _, ?_⟩
  rw [mem_blk_4]
  dsimp only
  omega

/-- Array 0 ends holding the whitened vectors number 0. -/
theorem final_4 : (dats m 0 c).arrAt 4 cfg0.N = whitened (xin m c) (win m c) 0 :=
  (dats m 0 c).arrAt_eq_of_cover 4 (whitened (xin m c) (win m c) 0) (fun t _ => flushed_4 m c t) cover_4

/-- What point `t` writes into array 1 is its block of the whitened vectors. -/
theorem flushed_5 (t : Fin cfg0.N) :
    (dats m 0 c).flushed 5 t = (win0_5.blk t).view.read (Elt Ideal) (whitened (xin m c) (win m c) 1) := by
  show (cfg0.win 5).cut (grid0.coords t) ((dats m 0 c).after 5 t) = _
  rw [after0_5]
  unfold out0_5
  rw [View.canon_unit_zero hz2, View.ld_unit_zero hz2]
  funext (i : S512x1024.Idx)
  obtain ⟨h0, h1⟩ := (idx_facts t).2.2.2.2.2.1
  have h := (out1 (x0 := iblk m c 0 t) (x1 := iblk m c 1 t) (x2 := iblk m c 2 t) (iblk m c 3 t) (i 0) (i 1)).trans
    (congrArg₂ (fun Z w => whiteE Z 1 (i 1) * w) (rows_blocks m c t (i 0)) (iblk_3 m c t (i 1)))
  have hi : (ix2 (i 0) (i 1) : S512x1024.Idx) = i := funext fun a => by match a with | ⟨0, _⟩ => rfl | ⟨1, _⟩ => rfl
  rw [hi] at h
  have e : (win0_5.rect t).emb i = ix2 (batch t (i 0)) (i 1) := by
    funext a
    apply Fin.ext
    match a with
    | ⟨0, _⟩ => show win0_5.index t 0 * win0_5.size 0 + 1 * (i 0).val = t.val * 512 + (i 0).val; omega
    | ⟨1, _⟩ => show win0_5.index t 1 * win0_5.size 1 + 1 * (i 1).val = (i 1).val; omega
  show _ = whitened (xin m c) (win m c) 1 ((win0_5.rect t).emb i)
  rw [e]
  exact h

/-- An index of array 1 is in point `t`'s block exactly when its batch is one of the point's. -/
theorem mem_blk_5 (t : Fin cfg0.N) (i : S32768x1024.Idx) :
    i ∈ ((cfg0.win 5).blk t).view.set ↔ t.val * 512 ≤ (i 0 : Nat) ∧ (i 0 : Nat) < t.val * 512 + 512 := by
  show i ∈ ((View.whole main_call0_v2_1).slice (win0_5.rect t)).set ↔ _
  rw [View.set_slice_whole, Rect.mem_set_unit]
  have hi1 : (i 1 : Nat) < 1024 := (i 1).isLt
  obtain ⟨h0, h1⟩ := (idx_facts t).2.2.2.2.2.1
  obtain ⟨s0, s1⟩ := (xsize_facts t).2.1
  refine ⟨fun h => ?_, fun h a => ?_⟩
  · have : win0_5.index t 0 * win0_5.size 0 ≤ (i 0 : Nat)
        ∧ (i 0 : Nat) < win0_5.index t 0 * win0_5.size 0 + win0_5.xsize (grid0.coords t) 0 := h 0
    rw [h0, s0] at this; exact this
  · match a with
    | ⟨0, _⟩ =>
      show win0_5.index t 0 * win0_5.size 0 ≤ (i 0 : Nat)
        ∧ (i 0 : Nat) < win0_5.index t 0 * win0_5.size 0 + win0_5.xsize (grid0.coords t) 0
      rw [h0, s0]; exact h
    | ⟨1, _⟩ =>
      show win0_5.index t 1 * win0_5.size 1 ≤ (i 1 : Nat)
        ∧ (i 1 : Nat) < win0_5.index t 1 * win0_5.size 1 + win0_5.xsize (grid0.coords t) 1
      rw [h1, s1]; omega

/-- The points' blocks tile array 1. -/
theorem cover_5 (i : S32768x1024.Idx) :
    ∃ t : Fin cfg0.N, (cfg0.win 5).flush t = true ∧ i ∈ ((cfg0.win 5).blk t).view.set := by
  have hi : (i 0 : Nat) < 32768 := (i 0).isLt
  have hN : cfg0.N = 64 := N_0
  have ht : (i 0 : Nat) / 512 < cfg0.N := by omega
  refine ⟨⟨(i 0 : Nat) / 512, ht⟩, flush0_5 _, ?_⟩
  rw [mem_blk_5]
  dsimp only
  omega

/-- Array 1 ends holding the whitened vectors number 1. -/
theorem final_5 : (dats m 0 c).arrAt 5 cfg0.N = whitened (xin m c) (win m c) 1 :=
  (dats m 0 c).arrAt_eq_of_cover 5 (whitened (xin m c) (win m c) 1) (fun t _ => flushed_5 m c t) cover_5

/-- What point `t` writes into array 2 is its block of the whitened vectors. -/
theorem flushed_6 (t : Fin cfg0.N) :
    (dats m 0 c).flushed 6 t = (win0_6.blk t).view.read (Elt Ideal) (whitened (xin m c) (win m c) 2) := by
  show (cfg0.win 6).cut (grid0.coords t) ((dats m 0 c).after 6 t) = _
  rw [after0_6]
  unfold out0_6
  rw [View.canon_unit_zero hz2, View.ld_unit_zero hz2]
  funext (i : S512x1024.Idx)
  obtain ⟨h0, h1⟩ := (idx_facts t).2.2.2.2.2.2
  have h := (out2 (x0 := iblk m c 0 t) (x1 := iblk m c 1 t) (x2 := iblk m c 2 t) (iblk m c 3 t) (i 0) (i 1)).trans
    (congrArg₂ (fun Z w => whiteE Z 2 (i 1) * w) (rows_blocks m c t (i 0)) (iblk_3 m c t (i 1)))
  have hi : (ix2 (i 0) (i 1) : S512x1024.Idx) = i := funext fun a => by match a with | ⟨0, _⟩ => rfl | ⟨1, _⟩ => rfl
  rw [hi] at h
  have e : (win0_6.rect t).emb i = ix2 (batch t (i 0)) (i 1) := by
    funext a
    apply Fin.ext
    match a with
    | ⟨0, _⟩ => show win0_6.index t 0 * win0_6.size 0 + 1 * (i 0).val = t.val * 512 + (i 0).val; omega
    | ⟨1, _⟩ => show win0_6.index t 1 * win0_6.size 1 + 1 * (i 1).val = (i 1).val; omega
  show _ = whitened (xin m c) (win m c) 2 ((win0_6.rect t).emb i)
  rw [e]
  exact h

/-- An index of array 2 is in point `t`'s block exactly when its batch is one of the point's. -/
theorem mem_blk_6 (t : Fin cfg0.N) (i : S32768x1024.Idx) :
    i ∈ ((cfg0.win 6).blk t).view.set ↔ t.val * 512 ≤ (i 0 : Nat) ∧ (i 0 : Nat) < t.val * 512 + 512 := by
  show i ∈ ((View.whole main_call0_v2_2).slice (win0_6.rect t)).set ↔ _
  rw [View.set_slice_whole, Rect.mem_set_unit]
  have hi1 : (i 1 : Nat) < 1024 := (i 1).isLt
  obtain ⟨h0, h1⟩ := (idx_facts t).2.2.2.2.2.2
  obtain ⟨s0, s1⟩ := (xsize_facts t).2.2
  refine ⟨fun h => ?_, fun h a => ?_⟩
  · have : win0_6.index t 0 * win0_6.size 0 ≤ (i 0 : Nat)
        ∧ (i 0 : Nat) < win0_6.index t 0 * win0_6.size 0 + win0_6.xsize (grid0.coords t) 0 := h 0
    rw [h0, s0] at this; exact this
  · match a with
    | ⟨0, _⟩ =>
      show win0_6.index t 0 * win0_6.size 0 ≤ (i 0 : Nat)
        ∧ (i 0 : Nat) < win0_6.index t 0 * win0_6.size 0 + win0_6.xsize (grid0.coords t) 0
      rw [h0, s0]; exact h
    | ⟨1, _⟩ =>
      show win0_6.index t 1 * win0_6.size 1 ≤ (i 1 : Nat)
        ∧ (i 1 : Nat) < win0_6.index t 1 * win0_6.size 1 + win0_6.xsize (grid0.coords t) 1
      rw [h1, s1]; omega

/-- The points' blocks tile array 2. -/
theorem cover_6 (i : S32768x1024.Idx) :
    ∃ t : Fin cfg0.N, (cfg0.win 6).flush t = true ∧ i ∈ ((cfg0.win 6).blk t).view.set := by
  have hi : (i 0 : Nat) < 32768 := (i 0).isLt
  have hN : cfg0.N = 64 := N_0
  have ht : (i 0 : Nat) / 512 < cfg0.N := by omega
  refine ⟨⟨(i 0 : Nat) / 512, ht⟩, flush0_6 _, ?_⟩
  rw [mem_blk_6]
  dsimp only
  omega

/-- Array 2 ends holding the whitened vectors number 2. -/
theorem final_6 : (dats m 0 c).arrAt 6 cfg0.N = whitened (xin m c) (win m c) 2 :=
  (dats m 0 c).arrAt_eq_of_cover 6 (whitened (xin m c) (win m c) 2) (fun t _ => flushed_6 m c t) cover_6

/-! ## What the host operations after the region leave -/

/-- The host operations after the region put the region's array 0 at row 0 of each batch. -/
theorem stack0 (W : Valuation τ sig (Elt Ideal)) (b : Fin 32768) (l : Fin 1024) :
    (StableHlo.after hostOps1 W (Proc.devRef .tc main_v0) : Vec Ideal S32768x3x1024 .f32) (ix3 b 0 l)
      = (W (Proc.devRef .tc main_call0_v2_0) : Vec Ideal S32768x1024 .f32) (ix2 b l) := by
  after_reads_at
  after_reads_at
  show broadcastInDim S32768x1x1024 ![0, 2] bcast_S32768x1024_S32768x1x1024_0_2
    (W (Proc.devRef .tc main_call0_v2_0) : Vec Ideal S32768x1024 .f32) (ix3 b 0 l) = _
  pointwise

/-- The host operations after the region put the region's array 1 at row 1 of each batch. -/
theorem stack1 (W : Valuation τ sig (Elt Ideal)) (b : Fin 32768) (l : Fin 1024) :
    (StableHlo.after hostOps1 W (Proc.devRef .tc main_v0) : Vec Ideal S32768x3x1024 .f32) (ix3 b 1 l)
      = (W (Proc.devRef .tc main_call0_v2_1) : Vec Ideal S32768x1024 .f32) (ix2 b l) := by
  after_reads_at
  after_reads_at
  show broadcastInDim S32768x1x1024 ![0, 2] bcast_S32768x1024_S32768x1x1024_0_2
    (W (Proc.devRef .tc main_call0_v2_1) : Vec Ideal S32768x1024 .f32) (ix3 b 0 l) = _
  pointwise

/-- The host operations after the region put the region's array 2 at row 2 of each batch. -/
theorem stack2 (W : Valuation τ sig (Elt Ideal)) (b : Fin 32768) (l : Fin 1024) :
    (StableHlo.after hostOps1 W (Proc.devRef .tc main_v0) : Vec Ideal S32768x3x1024 .f32) (ix3 b 2 l)
      = (W (Proc.devRef .tc main_call0_v2_2) : Vec Ideal S32768x1024 .f32) (ix2 b l) := by
  after_reads_at
  after_reads_at
  show broadcastInDim S32768x1x1024 ![0, 2] bcast_S32768x1024_S32768x1x1024_0_2
    (W (Proc.devRef .tc main_call0_v2_2) : Vec Ideal S32768x1024 .f32) (ix3 b 0 l) = _
  pointwise

/-- The buffer contents the host operations after the region start from hold the region's arrays as the region left them. -/
theorem exit_arr (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr_shared spec0 c (V0 m c) _
    ((dats m 0 c).arrAt_sharedIn launch₀0.sharedIn (V0 m c) (A_eq m c) _) w

/-- The whitened vectors times the weight, all batches: what the result buffer is shown to hold. -/
def stacked (x : Vec Ideal S32768x3x1024 .f32) (w : Vec Ideal S1024 .f32) : Vec Ideal S32768x3x1024 .f32 :=
  fun i => whiteE (batchRows x (i 0)) (i 1) (i 2) * w (ix1 (i 2))

/-- The result buffer ends holding them, entry by entry, -/
theorem result_apply (b : Fin 32768) (n : Fin 3) (l : Fin 1024) :
    (Pipeline.afterTail₀ cfgs (dats m) 0 (V0 m) [hostOps1] c main_v0 : Vec Ideal S32768x3x1024 .f32) (ix3 b n l)
      = stacked (xin m c) (win m c) (ix3 b n l) := by
  unfold Pipeline.afterTail₀
  match n with
  | 0 => exact (stack0 _ b l).trans (congrFun ((exit_arr m c 4).trans (final_4 m c)) (ix2 b l))
  | 1 => exact (stack1 _ b l).trans (congrFun ((exit_arr m c 5).trans (final_5 m c)) (ix2 b l))
  | 2 => exact (stack2 _ b l).trans (congrFun ((exit_arr m c 6).trans (final_6 m c)) (ix2 b l))

/-- and as a whole. -/
theorem result :
    (Pipeline.afterTail₀ cfgs (dats m) 0 (V0 m) [hostOps1] c main_v0 : Vec Ideal S32768x3x1024 .f32)
      = stacked (xin m c) (win m c) := by
  funext (i : S32768x3x1024.Idx)
  have hi : ix3 (i 0) (i 1) (i 2) = i :=
    funext fun a => by match a with | ⟨0, _⟩ => rfl | ⟨1, _⟩ => rfl | ⟨2, _⟩ => rfl
  rw [← hi]
  exact result_apply m c (i 0) (i 1) (i 2)

/-- The run of the kernel: the result holds the whitened vectors times the weight, the arguments are unchanged. -/
theorem run :
    θ_run defs (onTc (τ := τ) (main (F := Ideal))) ⟨m, fun _ => 0, ρ⟩ fun r => ∀ c : Dev nD,
      r.2.mem ((c : Thread nD τ).loc main_v0) = stacked (xin m c) (win m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h.1 c).trans (result m c), h.2 c⟩)
    (θ_run_and ((θ_run defs _ _).mono
      (fun _ h (c : Dev nD) => (h c).2 main_v0 (Pipeline.mem_restRefs_of main_v0 (by decide) (by decide))) (run_main m ρ))
      (unchanged m ρ))

end Cert.KernelIdeal.Arrays

end
-- ==== Proof.Reference.lean ====
/-
  The reference's run, read, batch by batch. The centred vectors and the covariance are those of `Extended.lean`,
  whatever the vectors. Where the covariance is real, each further value is the corresponding quantity of `Spec.lean`;
  where it is unbounded, it is the value that `Extended.lean` names. The result is the whitened vectors times the weight.
-/
module

public import proofs.«01_k».proof.Proof.Extended
public import proofs.«01_k».proof.Proof.Gen.ReferenceIdeal.Read
public import Idealize.ShloMosaic.Lib.Pointwise

@[expose] public section

set_option maxRecDepth 16384

noncomputable section

namespace Cert.ReferenceIdeal.Reading

open Cert.ReferenceIdeal Cert.ReferenceIdeal.Gen Cert.ReferenceIdeal.Read Cert.Whiten
open Idealize.ShloMosaic Idealize.ShloMosaic.TcCoe Idealize.SL.Sem

/-! ## The constant matrices -/

/-- The condition by which the identity matrix is made. -/
theorem diag_cond (i j : Fin 3) :
    IntOp.cmpi .eq (IntOp.addi (BitVec.ofNat 32 i.val) 0#32) (BitVec.ofNat 32 j.val) = if i = j then 1#1 else 0#1 := by
  revert i j; decide

theorem sitofp_eq (v : BitVec 32) : FloatOps.sitofp (F := Ideal) .f32 v = ((v.toInt : ℝ) : EReal) := rfl
theorem uitofp_eq (v : BitVec 1) : FloatOps.uitofp (F := Ideal) .f32 v = ((v.toNat : ℝ) : EReal) := rfl

/-- The diagonal matrix `1, 2, 3`. -/
theorem diag_eq (i j : Fin 3) : val_main_v9 (F := Ideal) (ix2 i j) = ((((i : ℕ) + 1 : ℝ) * delta i j : ℝ) : EReal) := by
  pointwise [val_main_v9, val_main_call0_v5, val_main_call0_v4, val_main_call0_v1, val_main_call0_v3, val_main_call0_c, val_main_call0_v2, val_main_call0_call0_v0, val_main_call0_v6, val_main_call0_v0, val_main_v8, val_main_v7, val_main_cst_1, val_main_v6, val_main_call0_cst, val_main_call0_call0_v1, val_main_call0_cst_0]
  rw [diag_cond, sitofp_eq, show (BitVec.ofNat 32 i.val).toInt = (i.val : ℤ) by revert i; decide]
  simp only [← EReal.coe_one, ← EReal.coe_add, Int.cast_natCast]
  unfold delta Scalar.select
  by_cases hij : i = j
  · rw [if_pos hij, if_pos hij]
    refine (if_pos rfl).trans ?_
    congr 1; ring
  · rw [if_neg hij, if_neg hij, mul_zero]
    exact if_neg (by decide)

/-- The identity matrix. -/
theorem eye_23 (i j : Fin 3) : val_main_v23 (F := Ideal) (ix2 i j) = ((delta i j : ℝ) : EReal) := by
  pointwise [val_main_v23, val_main_v22, val_main_v21, val_main_v18, val_main_v20, val_main_c, val_main_v19]
  rw [diag_cond]
  unfold delta
  by_cases hij : i = j
  · rw [if_pos hij, if_pos hij]; simp [uitofp_eq]
  · rw [if_neg hij, if_neg hij]; simp [uitofp_eq]

/-- The identity matrix. -/
theorem eye_45 (i j : Fin 3) : val_main_v45 (F := Ideal) (ix2 i j) = ((delta i j : ℝ) : EReal) := by
  pointwise [val_main_v45, val_main_v44, val_main_v43, val_main_v40, val_main_v42, val_main_c_6, val_main_v41]
  rw [diag_cond]
  unfold delta
  by_cases hij : i = j
  · rw [if_pos hij, if_pos hij]; simp [uitofp_eq]
  · rw [if_neg hij, if_neg hij]; simp [uitofp_eq]

/-- The identity matrix. -/
theorem eye_256 (i j : Fin 3) : val_main_v256 (F := Ideal) (ix2 i j) = ((delta i j : ℝ) : EReal) := by
  pointwise [val_main_v256, val_main_v255, val_main_v254, val_main_v251, val_main_v253, val_main_c_50, val_main_v252]
  rw [diag_cond]
  unfold delta
  by_cases hij : i = j
  · rw [if_pos hij, if_pos hij]; simp [uitofp_eq]
  · rw [if_neg hij, if_neg hij]; simp [uitofp_eq]

/-! ## The centred vectors and the covariance, whatever the vectors -/

/-- The three vectors of batch `b`. -/
def batchRows (x : Vec Ideal S32768x3x1024 .f32) (b : Fin 32768) (n : Fin 3) (l : Fin 1024) : EReal := x (ix3 b n l)

section
variable (x : Vec Ideal S32768x3x1024 .f32) (b : Fin 32768)

/-- The centred vectors. -/
theorem centred_eq (n : Fin 3) (l : Fin 1024) :
    val_main_v5 (F := Ideal) x (ix3 b n l) = centredE (batchRows x b) n l := by
  pointwise [val_main_v5, val_main_v4, val_main_v3, val_main_v1, val_main_v0, val_main_cst, val_main_v2, val_main_cst_0]
  rw [bits_n1024, Ideal.div_coe (by norm_num)]
  rfl

/-- Their inner products. -/
theorem gram_eq (i j : Fin 3) : val_main_v10 (F := Ideal) x (ix3 b i j)
    = ∑ k, centredE (batchRows x b) i k * centredE (batchRows x b) j k := by
  pointwise [val_main_v10]
  simp only [centred_eq]

/-- The regularized covariance matrix. -/
theorem cov_eq (i j : Fin 3) : val_main_v28 (F := Ideal) x (ix3 b i j) = covE (batchRows x b) i j := by
  pointwise [val_main_v28, val_main_v17, val_main_v12, val_main_v11, val_main_cst_2, val_main_v16, val_main_v15, val_main_v14, val_main_v13, val_main_cst_3, val_main_v27, val_main_v26, val_main_v25, val_main_v24, val_main_cst_4]
  rw [gram_eq, diag_eq, eye_23, bits_n1024, bits_eps, Ideal.div_coe (by norm_num), add_assoc]
  simp only [← EReal.coe_mul, ← EReal.coe_add]
  unfold covE
  congr 2; ring

end

/-! ## The angle, from the cosine of three times it -/

section
variable {x : Vec Ideal S32768x3x1024 .f32} {b : Fin 32768} {ρ : ℝ}
variable (g : val_main_v108 (F := Ideal) x (ix1 b) = (ρ : EReal) ∧ |ρ| ≤ 1)
include g

/-- The square the rational function is taken at. -/
theorem square_eq : val_main_v117 (F := Ideal) x (ix1 b) = ((arcZ ρ : ℝ) : EReal) := by
  pointwise [val_main_v117, val_main_v111, val_main_v109, val_main_v110, val_main_cst_14, val_main_v112, val_main_v116, val_main_v114, val_main_v113, val_main_cst_15, val_main_v115, val_main_cst_16]
  rw [g.1, bits_half, bits_two, absf_coe]
  simp only [← EReal.coe_one, EReal.coe_lt_coe_iff, ← EReal.coe_mul, ← EReal.coe_add, ← EReal.coe_sub, sum_coe]
  rw [div_coe_ne _ _ (by norm_num)]
  unfold arcZ
  by_cases hr : |ρ| < 1 / 2
  · simp only [if_pos hr]
  · simp only [if_neg hr]
    congr 1; ring

/-- Its square root. -/
theorem sine_eq : val_main_v119 (F := Ideal) x (ix1 b) = ((arcS ρ : ℝ) : EReal) := by
  pointwise [val_main_v119, val_main_v111, val_main_v109, val_main_v110, val_main_cst_14, val_main_v118]
  rw [g.1, square_eq g, bits_half, absf_coe, sqrt_coe_nonneg _ (arcZ_nonneg (g.2))]
  unfold arcS
  simp only [EReal.coe_lt_coe_iff]
  split_ifs <;> rfl

/-- The arcsine. -/
theorem arcsine_eq : val_main_v138 (F := Ideal) x (ix1 b) = ((arcAsin ρ : ℝ) : EReal) := by
  pointwise [val_main_v138, val_main_v137, val_main_v136, val_main_cst_22, val_main_v135, val_main_v130, val_main_v125, val_main_v121, val_main_v120, val_main_cst_17, val_main_v124, val_main_v123, val_main_v122, val_main_cst_18, val_main_v129, val_main_v128, val_main_v127, val_main_v126, val_main_cst_19, val_main_v134, val_main_v133, val_main_cst_21, val_main_v132, val_main_v131, val_main_cst_20]
  have p : 1 - den1 * arcZ ρ ≠ 0 := by
    have := arcDen_pos (g.2)
    intro h0; linarith
  rw [sine_eq g, square_eq g, bits_num1, bits_num2, bits_num3, bits_den1]
  simp only [← EReal.coe_one, ← EReal.coe_mul, ← EReal.coe_add, ← EReal.coe_sub, sum_coe]
  rw [div_coe_ne _ _ p]
  simp only [← EReal.coe_mul, ← EReal.coe_add, ← EReal.coe_sub, sum_coe]
  congr 1; unfold arcAsin arcR
  rw [show 1 + arcZ ρ * -den1 = 1 - den1 * arcZ ρ by ring]
  ring

/-- The angle. -/
theorem angle_eq : val_main_v150 (F := Ideal) x (ix1 b) = ((angleOf ρ : ℝ) : EReal) := by
  pointwise [val_main_v150, val_main_v148, val_main_v145, val_main_v144, val_main_cst_25, val_main_v143, val_main_v111, val_main_v109, val_main_v110, val_main_cst_14, val_main_v140, val_main_v139, val_main_cst_23, val_main_v142, val_main_v141, val_main_cst_24, val_main_v147, val_main_v146, val_main_cst_26, val_main_v149, val_main_cst_27]
  rw [g.1, arcsine_eq g, bits_half, bits_two, bits_three, bits_halfPi, bits_pi, absf_coe]
  simp only [← EReal.coe_zero, EReal.coe_le_coe_iff, EReal.coe_lt_coe_iff, ← EReal.coe_mul, ← EReal.coe_add, ← EReal.coe_sub, sum_coe]
  unfold angleOf arccosR arcAbs
  split_ifs <;> (try simp only [← EReal.coe_mul, ← EReal.coe_add, ← EReal.coe_sub, sum_coe]) <;> rw [div_coe_ne _ _ (by norm_num)] <;> congr 1 <;> ring

/-- Its cosine. -/
theorem cosine_eq : val_main_v172 (F := Ideal) x (ix1 b) = ((cosT (angleOf ρ) : ℝ) : EReal) := by
  pointwise [val_main_v172, val_main_v166, val_main_v161, val_main_v157, val_main_v156, val_main_cst_30, val_main_v155, val_main_v153, val_main_v154, val_main_cst_29, val_main_v160, val_main_v158, val_main_v159, val_main_cst_31, val_main_v165, val_main_v163, val_main_v162, val_main_v164, val_main_cst_32, val_main_v171, val_main_v169, val_main_v168, val_main_v167, val_main_v170, val_main_cst_33]
  rw [angle_eq g, bits_two, bits_n24, bits_n720, bits_n40320]
  simp only [← EReal.coe_one, ← EReal.coe_mul, ← EReal.coe_add, ← EReal.coe_sub, sum_coe]
  rw [div_coe_ne _ _ (by norm_num), div_coe_ne _ _ (by norm_num), div_coe_ne _ _ (by norm_num), div_coe_ne _ _ (by norm_num)]
  simp only [← EReal.coe_mul, ← EReal.coe_add, ← EReal.coe_sub, sum_coe]
  congr 1; unfold cosT; ring

/-- Its cosine, as the least eigenvalue takes it. -/
theorem cosine_again : val_main_v194 (F := Ideal) x (ix1 b) = ((cosT (angleOf ρ) : ℝ) : EReal) := by
  pointwise [val_main_v194, val_main_v188, val_main_v183, val_main_v179, val_main_v178, val_main_cst_35, val_main_v177, val_main_v175, val_main_v176, val_main_cst_34, val_main_v182, val_main_v180, val_main_v181, val_main_cst_36, val_main_v187, val_main_v185, val_main_v184, val_main_v186, val_main_cst_37, val_main_v193, val_main_v191, val_main_v190, val_main_v189, val_main_v192, val_main_cst_38]
  rw [angle_eq g, bits_two, bits_n24, bits_n720, bits_n40320]
  simp only [← EReal.coe_one, ← EReal.coe_mul, ← EReal.coe_add, ← EReal.coe_sub, sum_coe]
  rw [div_coe_ne _ _ (by norm_num), div_coe_ne _ _ (by norm_num), div_coe_ne _ _ (by norm_num), div_coe_ne _ _ (by norm_num)]
  simp only [← EReal.coe_mul, ← EReal.coe_add, ← EReal.coe_sub, sum_coe]
  congr 1; unfold cosT; ring

/-- Its sine. -/
theorem sin_eq : val_main_v216 (F := Ideal) x (ix1 b) = ((sinT (angleOf ρ) : ℝ) : EReal) := by
  pointwise [val_main_v216, val_main_v215, val_main_v209, val_main_v204, val_main_v200, val_main_v199, val_main_cst_41, val_main_v198, val_main_v196, val_main_v197, val_main_cst_40, val_main_v203, val_main_v201, val_main_v202, val_main_cst_42, val_main_v208, val_main_v206, val_main_v205, val_main_v207, val_main_cst_43, val_main_v214, val_main_v212, val_main_v211, val_main_v210, val_main_v213, val_main_cst_44]
  rw [angle_eq g, bits_six, bits_n120, bits_n5040, bits_n362880]
  simp only [← EReal.coe_one, ← EReal.coe_mul, ← EReal.coe_add, ← EReal.coe_sub, sum_coe]
  rw [div_coe_ne _ _ (by norm_num), div_coe_ne _ _ (by norm_num), div_coe_ne _ _ (by norm_num), div_coe_ne _ _ (by norm_num)]
  simp only [← EReal.coe_mul, ← EReal.coe_add, ← EReal.coe_sub, sum_coe]
  congr 1; unfold sinT; ring

end

/-! ## The batches whose covariance is real -/

section
variable {x : Vec Ideal S32768x3x1024 .f32} {b : Fin 32768} {A : Fin 3 → Fin 3 → ℝ}
variable (h : ∀ i j, covE (batchRows x b) i j = ((A i j : ℝ) : EReal))
include h

/-- The real matrix is symmetric. -/
theorem symm (i j : Fin 3) : A i j = A j i :=
  EReal.coe_injective ((h i j).symm.trans ((covE_symm _ i j).trans (h j i)))

/-- The covariance matrix. -/
theorem cov_real (i j : Fin 3) : val_main_v28 (F := Ideal) x (ix3 b i j) = ((A i j : ℝ) : EReal) :=
  (cov_eq x b i j).trans (h i j)

/-- Its trace. -/
theorem trace_eq : val_main_v36 (F := Ideal) x (ix1 b) = ((A 0 0 + A 1 1 + A 2 2 : ℝ) : EReal) := by
  pointwise [val_main_v36, val_main_v33, val_main_v30, val_main_v29, val_main_v32, val_main_v31, val_main_v35, val_main_v34]
  simp only [cov_real h, ← EReal.coe_mul, ← EReal.coe_add, ← EReal.coe_sub, sum_coe]

/-- A third of the trace. -/
theorem third_eq : val_main_v38 (F := Ideal) x (ix1 b) = ((third A : ℝ) : EReal) := by
  pointwise [val_main_v38, val_main_v37, val_main_cst_5]
  rw [trace_eq h, bits_three, div_coe_ne _ _ (by norm_num)]
  congr 1; unfold third; ring

/-- The matrix less its mean eigenvalue. -/
theorem shifted_eq (i j : Fin 3) : val_main_v50 (F := Ideal) x (ix3 b i j) = ((A i j - third A * delta i j : ℝ) : EReal) := by
  pointwise [val_main_v50, val_main_v49, val_main_v47, val_main_v39, val_main_v48, val_main_v46]
  rw [cov_real h, third_eq h, eye_45]
  simp only [← EReal.coe_mul, ← EReal.coe_add, ← EReal.coe_sub, sum_coe]

/-- The spread of the eigenvalues. -/
theorem spread_eq : val_main_v56 (F := Ideal) x (ix1 b) = ((spread A : ℝ) : EReal) := by
  pointwise [val_main_v56, val_main_v55, val_main_v53, val_main_v52, val_main_v51, val_main_cst_7, val_main_cst_8, val_main_v54, val_main_cst_9]
  simp only [shifted_eq h, bits_zero, bits_six, ← EReal.coe_mul, ← EReal.coe_add, ← EReal.coe_sub, sum_coe]
  rw [div_coe_ne _ _ (by norm_num)]
  have e : (∑ i : Fin 3, ∑ j : Fin 3, (A i j - third A * delta i j) * (A i j - third A * delta i j)) / 6
      = spread2 A := by
    have hA := symm h
    simp only [Fin.sum_univ_three, delta_same, delta_01, delta_02, delta_12, delta_10, delta_20, delta_21, hA 1 0, hA 2 0, hA 2 1]
    unfold spread2; ring
  rw [e, sqrt_coe_nonneg _ (spread2_nonneg _)]
  rfl

/-- The determinant of the shifted matrix. -/
theorem det_eq : val_main_v100 (F := Ideal) x (ix1 b) = ((detK A : ℝ) : EReal) := by
  pointwise [val_main_v100, val_main_v85, val_main_v70, val_main_v58, val_main_v57, val_main_v69, val_main_v63, val_main_v60, val_main_v59, val_main_v62, val_main_v61, val_main_v68, val_main_v65, val_main_v64, val_main_v67, val_main_v66, val_main_v84, val_main_v72, val_main_v71, val_main_v83, val_main_v77, val_main_v74, val_main_v73, val_main_v76, val_main_v75, val_main_v82, val_main_v79, val_main_v78, val_main_v81, val_main_v80, val_main_v99, val_main_v87, val_main_v86, val_main_v98, val_main_v92, val_main_v89, val_main_v88, val_main_v91, val_main_v90, val_main_v97, val_main_v94, val_main_v93, val_main_v96, val_main_v95]
  simp only [shifted_eq h, ← EReal.coe_mul, ← EReal.coe_add, ← EReal.coe_sub, sum_coe]
  have hA := symm h
  congr 1
  simp only [delta_same, delta_01, delta_02, delta_12, delta_10, delta_20, delta_21, hA 1 0, hA 2 0, hA 2 1]
  unfold detK; ring

/-- The cosine of three times the angle, clipped. -/
theorem ratio_eq : val_main_v108 (F := Ideal) x (ix1 b) = ((ratio A : ℝ) : EReal) := by
  pointwise [val_main_v108, val_main_call1_v4, val_main_call1_v3, val_main_cst_13, val_main_call1_v2, val_main_call1_v1, val_main_call1_v0, val_main_cst_12, val_main_v107, val_main_v106, val_main_v105, val_main_cst_11, val_main_v104, val_main_v102, val_main_v101, val_main_v103, val_main_cst_10]
  have p : 0 < max (spread A * spread A * spread A) tiny := lt_max_of_lt_right tiny_pos
  simp only [id]
  pointwise
  rw [det_eq h, spread_eq h, bits_tiny, bits_two, bits_negOne]
  simp only [← EReal.coe_one, max_coe, ← EReal.coe_mul, ← EReal.coe_add, ← EReal.coe_sub, sum_coe]
  rw [div_coe_ne _ _ (by positivity), max_coe, min_coe]
  congr 1; unfold ratio; congr 2; field_simp

/-- The clipped ratio is a real number of absolute value at most one. -/
theorem ratio_real : val_main_v108 (F := Ideal) x (ix1 b) = ((ratio A : ℝ) : EReal) ∧ |ratio A| ≤ 1 :=
  ⟨ratio_eq h, abs_ratio_le _⟩

/-- The greatest eigenvalue. -/
theorem hi_eq : val_main_v174 (F := Ideal) x (ix1 b) = ((eigHi A : ℝ) : EReal) := by
  pointwise [val_main_v174, val_main_v173, val_main_v152, val_main_v151, val_main_cst_28]
  rw [third_eq h, spread_eq h, cosine_eq (ratio_real h), bits_two]
  simp only [← EReal.coe_mul, ← EReal.coe_add, ← EReal.coe_sub, sum_coe]
  rfl

/-- The least eigenvalue. -/
theorem lo_eq : val_main_v221 (F := Ideal) x (ix1 b) = ((eigLo A : ℝ) : EReal) := by
  pointwise [val_main_v221, val_main_v220, val_main_v219, val_main_v218, val_main_v217, val_main_v195, val_main_cst_39]
  rw [third_eq h, spread_eq h, cosine_again (ratio_real h), sin_eq (ratio_real h), bits_three, sqrt_coe_nonneg _ (by norm_num)]
  simp only [← EReal.coe_mul, ← EReal.coe_add, ← EReal.coe_sub, sum_coe]
  congr 1; unfold eigLo angle; ring

/-- The middle eigenvalue. -/
theorem mid_eq : val_main_v223 (F := Ideal) x (ix1 b) = ((eigMid A : ℝ) : EReal) := by
  pointwise [val_main_v223, val_main_v222]
  rw [trace_eq h, hi_eq h, lo_eq h]
  simp only [← EReal.coe_mul, ← EReal.coe_add, ← EReal.coe_sub, sum_coe]
  congr 1; unfold eigMid third; ring

/-- The square root of the least eigenvalue. -/
theorem rootLo_eq : val_main_v226 (F := Ideal) x (ix1 b) = ((root (eigLo A) : ℝ) : EReal) := by
  pointwise [val_main_v226, val_main_v225, val_main_v224, val_main_cst_45]
  rw [lo_eq h, bits_floorEig, max_coe]
  exact sqrt_coe_nonneg _ (floor_max_nonneg _)

/-- The square root of the middle eigenvalue. -/
theorem rootMid_eq : val_main_v229 (F := Ideal) x (ix1 b) = ((root (eigMid A) : ℝ) : EReal) := by
  pointwise [val_main_v229, val_main_v228, val_main_v227, val_main_cst_46]
  rw [mid_eq h, bits_floorEig, max_coe]
  exact sqrt_coe_nonneg _ (floor_max_nonneg _)

/-- The square root of the greatest eigenvalue. -/
theorem rootHi_eq : val_main_v232 (F := Ideal) x (ix1 b) = ((root (eigHi A) : ℝ) : EReal) := by
  pointwise [val_main_v232, val_main_v231, val_main_v230, val_main_cst_47]
  rw [hi_eq h, bits_floorEig, max_coe]
  exact sqrt_coe_nonneg _ (floor_max_nonneg _)

/-- The first coefficient of Newton's form. -/
theorem c0_eq : val_main_v234 (F := Ideal) x (ix1 b) = ((c0 A : ℝ) : EReal) := by
  pointwise [val_main_v234, val_main_v233, val_main_cst_48]
  rw [rootLo_eq h, ← EReal.coe_one, div_coe_ne _ _ (root_pos _).ne']
  rfl

/-- The second coefficient. -/
theorem c1_eq : val_main_v239 (F := Ideal) x (ix1 b) = ((c1 A : ℝ) : EReal) := by
  pointwise [val_main_v239, val_main_v238, val_main_cst_49, val_main_v237, val_main_v235, val_main_v236]
  have p1 := root_pos (eigLo A)
  have p2 := root_pos (eigMid A)
  have p3 := root_pos (eigHi A)
  rw [rootLo_eq h, rootMid_eq h, bits_negOne]
  simp only [← EReal.coe_mul, ← EReal.coe_add, ← EReal.coe_sub, sum_coe]
  rw [div_coe_ne _ _ (by positivity)]
  rfl

/-- The third coefficient. -/
theorem c2_eq : val_main_v250 (F := Ideal) x (ix1 b) = ((c2 A : ℝ) : EReal) := by
  pointwise [val_main_v250, val_main_v241, val_main_v240, val_main_v249, val_main_v247, val_main_v245, val_main_v243, val_main_v242, val_main_v244, val_main_v246, val_main_v248]
  have p1 := root_pos (eigLo A)
  have p2 := root_pos (eigMid A)
  have p3 := root_pos (eigHi A)
  rw [rootLo_eq h, rootMid_eq h, rootHi_eq h]
  simp only [← EReal.coe_mul, ← EReal.coe_add, ← EReal.coe_sub, sum_coe]
  rw [div_coe_ne _ _ (by positivity)]
  congr 1; unfold c2; congr 1; ring

/-- The matrix less its least eigenvalue. -/
theorem shiftLo_eq (i j : Fin 3) : val_main_v266 (F := Ideal) x (ix3 b i j) = ((A i j - eigLo A * delta i j : ℝ) : EReal) := by
  pointwise [val_main_v266, val_main_v265, val_main_v263, val_main_v260, val_main_v264, val_main_v262]
  rw [cov_real h, lo_eq h, eye_256]
  simp only [← EReal.coe_mul, ← EReal.coe_add, ← EReal.coe_sub, sum_coe]

/-- The matrix less its middle eigenvalue. -/
theorem shiftMid_eq (i j : Fin 3) : val_main_v271 (F := Ideal) x (ix3 b i j) = ((A i j - eigMid A * delta i j : ℝ) : EReal) := by
  pointwise [val_main_v271, val_main_v270, val_main_v268, val_main_v261, val_main_v269, val_main_v267]
  rw [cov_real h, mid_eq h, eye_256]
  simp only [← EReal.coe_mul, ← EReal.coe_add, ← EReal.coe_sub, sum_coe]

/-- The inverse square root. -/
theorem invSqrt_eq (i j : Fin 3) : val_main_v282 (F := Ideal) x (ix3 b i j) = ((invSqrt A i j : ℝ) : EReal) := by
  pointwise [val_main_v282, val_main_v278, val_main_v275, val_main_v273, val_main_v257, val_main_v274, val_main_v272, val_main_v277, val_main_v276, val_main_v258, val_main_v281, val_main_v280, val_main_v259, val_main_v279]
  simp only [c0_eq h, c1_eq h, c2_eq h, shiftLo_eq h, shiftMid_eq h, eye_256, ← EReal.coe_mul, ← EReal.coe_add, ← EReal.coe_sub, sum_coe]
  rfl

end

/-! ## The batches whose covariance is unbounded -/

section
variable {x : Vec Ideal S32768x3x1024 .f32} {b : Fin 32768} (h : Unbounded (covE (batchRows x b)))
include h

/-- The trace is `⊤`, -/
theorem far_trace : val_main_v36 (F := Ideal) x (ix1 b) = ⊤ := by
  pointwise [val_main_v36, val_main_v33, val_main_v30, val_main_v29, val_main_v32, val_main_v31, val_main_v35, val_main_v34]
  simp only [cov_eq]
  exact h.trace

/-- and so is a third of it. -/
theorem far_third : val_main_v38 (F := Ideal) x (ix1 b) = ⊤ := by
  pointwise [val_main_v38, val_main_v37, val_main_cst_5]
  rw [far_trace h, bits_three, Ideal.div_coe (by norm_num)]
  exact EReal.top_mul_coe_of_pos (by norm_num)

/-- The diagonal less a third of the trace is `⊥`. -/
theorem far_shifted (i : Fin 3) : val_main_v50 (F := Ideal) x (ix3 b i i) = ⊥ := by
  pointwise [val_main_v50, val_main_v49, val_main_v47, val_main_v39, val_main_v48, val_main_v46]
  rw [far_third h, eye_45, delta_same, EReal.coe_one, mul_one]
  exact sub_topE _

/-- The spread is `⊤`. -/
theorem far_spread : val_main_v56 (F := Ideal) x (ix1 b) = ⊤ := by
  pointwise [val_main_v56, val_main_v55, val_main_v53, val_main_v52, val_main_v51, val_main_cst_7, val_main_cst_8, val_main_v54, val_main_cst_9]
  have e : ∑ i : Fin 3, ∑ j : Fin 3, val_main_v50 (F := Ideal) x (ix3 b i j) * val_main_v50 (F := Ideal) x (ix3 b i j) = ⊤ := by
    have hs : ∀ i : Fin 3, 0 ≤ ∑ j : Fin 3, val_main_v50 (F := Ideal) x (ix3 b i j) * val_main_v50 (F := Ideal) x (ix3 b i j) :=
      fun i => Finset.sum_nonneg fun j _ => mul_self_nonnegE _
    refine top_le_iff.1 (le_trans ?_ (Finset.single_le_sum (fun i _ => hs i) (Finset.mem_univ 0)))
    refine le_trans ?_ (Finset.single_le_sum (fun j _ => mul_self_nonnegE _) (Finset.mem_univ 0))
    rw [far_shifted h, EReal.bot_mul_bot]
  simp only [bits_zero, bits_six, EReal.coe_zero, zero_add]
  rw [e, Ideal.div_coe (by norm_num), EReal.top_mul_coe_of_pos (by norm_num)]
  rfl

/-- The clipped ratio is zero. -/
theorem far_ratio : val_main_v108 (F := Ideal) x (ix1 b) = ((0 : ℝ) : EReal) ∧ |(0 : ℝ)| ≤ 1 := by
  refine ⟨?_, by norm_num⟩
  pointwise [val_main_v108, val_main_call1_v4, val_main_call1_v3, val_main_cst_13, val_main_call1_v2, val_main_call1_v1, val_main_call1_v0, val_main_cst_12, val_main_v107, val_main_v106, val_main_v105, val_main_cst_11, val_main_v104, val_main_v102, val_main_v101, val_main_v103, val_main_cst_10]
  simp only [id]
  pointwise
  rw [far_spread h, bits_tiny, bits_two, bits_negOne, EReal.top_mul_top, EReal.top_mul_top, max_eq_left le_top,
    EReal.coe_mul_top_of_pos (by norm_num), div_topE, ← EReal.coe_zero, ← EReal.coe_one, max_coe, min_coe]
  norm_num

/-- The greatest eigenvalue is taken at `⊤`, -/
theorem far_hi : val_main_v174 (F := Ideal) x (ix1 b) = ⊤ := by
  pointwise [val_main_v174, val_main_v173, val_main_v152, val_main_v151, val_main_cst_28]
  rw [far_third h, far_spread h, cosine_eq (far_ratio h), bits_two, EReal.coe_mul_top_of_pos (by norm_num),
    EReal.top_mul_coe_of_pos cosT_pos, EReal.top_add_top]

/-- the least at `⊥`, -/
theorem far_lo : val_main_v221 (F := Ideal) x (ix1 b) = ⊥ := by
  pointwise [val_main_v221, val_main_v220, val_main_v219, val_main_v218, val_main_v217, val_main_v195, val_main_cst_39]
  have p : 0 < cosT (angleOf 0) + Real.sqrt 3 * sinT (angleOf 0) :=
    add_pos cosT_pos (mul_pos (Real.sqrt_pos.2 (by norm_num)) sinT_pos)
  rw [far_third h, far_spread h, cosine_again (far_ratio h), sin_eq (far_ratio h), bits_three,
    sqrt_coe_nonneg _ (by norm_num), ← EReal.coe_mul, ← EReal.coe_add, EReal.top_mul_coe_of_pos p]
  exact sub_topE _

/-- and the middle one at `⊥`. -/
theorem far_mid : val_main_v223 (F := Ideal) x (ix1 b) = ⊥ := by
  pointwise [val_main_v223, val_main_v222]
  rw [far_trace h, far_hi h, far_lo h, sub_topE, sub_eq_add_neg, EReal.bot_add]

/-- The square root of the least eigenvalue, -/
theorem far_rootLo : val_main_v226 (F := Ideal) x (ix1 b) = ((root0 : ℝ) : EReal) := by
  pointwise [val_main_v226, val_main_v225, val_main_v224, val_main_cst_45]
  rw [far_lo h, bits_floorEig]
  exact sqrt_bot_floor

/-- of the middle one, -/
theorem far_rootMid : val_main_v229 (F := Ideal) x (ix1 b) = ((root0 : ℝ) : EReal) := by
  pointwise [val_main_v229, val_main_v228, val_main_v227, val_main_cst_46]
  rw [far_mid h, bits_floorEig]
  exact sqrt_bot_floor

/-- and of the greatest. -/
theorem far_rootHi : val_main_v232 (F := Ideal) x (ix1 b) = ⊤ := by
  pointwise [val_main_v232, val_main_v231, val_main_v230, val_main_cst_47]
  rw [far_hi h, bits_floorEig]
  exact sqrt_top_floor

/-- The first coefficient of Newton's form. -/
theorem far_c0 : val_main_v234 (F := Ideal) x (ix1 b) = ((1 / root0 : ℝ) : EReal) := by
  pointwise [val_main_v234, val_main_v233, val_main_cst_48]
  rw [far_rootLo h, ← EReal.coe_one, div_coe_ne _ _ root0_pos.ne']

/-- The second coefficient. -/
theorem far_c1 : val_main_v239 (F := Ideal) x (ix1 b) = ((-1 / (root0 * root0 * (root0 + root0)) : ℝ) : EReal) := by
  pointwise [val_main_v239, val_main_v238, val_main_cst_49, val_main_v237, val_main_v235, val_main_v236]
  have p := root0_pos
  rw [far_rootLo h, far_rootMid h, bits_negOne]
  simp only [← EReal.coe_mul, ← EReal.coe_add]
  rw [div_coe_ne _ _ (by positivity)]

/-- The third coefficient vanishes. -/
theorem far_c2 : val_main_v250 (F := Ideal) x (ix1 b) = 0 := by
  pointwise [val_main_v250, val_main_v241, val_main_v240, val_main_v249, val_main_v247, val_main_v245, val_main_v243, val_main_v242, val_main_v244, val_main_v246, val_main_v248]
  have p := root0_pos
  rw [far_rootLo h, far_rootMid h, far_rootHi h]
  refine (congrArg (Ideal.div _) ?_).trans (div_topE _)
  rw [← EReal.coe_mul, ← EReal.coe_add, coe_add_top, EReal.coe_mul_top_of_pos (by positivity),
    EReal.top_mul_coe_of_pos (by positivity), EReal.top_mul_top, EReal.top_mul_top]

/-- The matrix less its least eigenvalue, on the diagonal, -/
theorem far_shiftLo_diag (i : Fin 3) : val_main_v266 (F := Ideal) x (ix3 b i i) = ⊤ := by
  pointwise [val_main_v266, val_main_v265, val_main_v263, val_main_v260, val_main_v264, val_main_v262]
  rw [cov_eq, far_lo h, eye_256, delta_same, EReal.coe_one, mul_one]
  exact sub_botE (h.diag i)

/-- and off it. -/
theorem far_shiftLo_off {i j : Fin 3} (hij : i ≠ j) :
    val_main_v266 (F := Ideal) x (ix3 b i j) = covE (batchRows x b) i j := by
  pointwise [val_main_v266, val_main_v265, val_main_v263, val_main_v260, val_main_v264, val_main_v262]
  rw [cov_eq, far_lo h, eye_256, delta, if_neg hij, EReal.coe_zero, mul_zero, sub_zero]

/-- The inverse square root. -/
theorem far_invSqrt (i j : Fin 3) :
    val_main_v282 (F := Ideal) x (ix3 b i j) = invSqrtE (covE (batchRows x b)) i j := by
  pointwise [val_main_v282, val_main_v278, val_main_v275, val_main_v273, val_main_v257, val_main_v274, val_main_v272, val_main_v277, val_main_v276, val_main_v258, val_main_v281, val_main_v280, val_main_v259, val_main_v279]
  rw [far_c0 h, far_c1 h, far_c2 h, zero_mul, add_zero, eye_256]
  by_cases hij : i = j
  · subst hij
    rw [far_shiftLo_diag h, EReal.coe_mul_top_of_neg diff_neg, EReal.add_bot, invSqrtE_diag h]
  · rw [far_shiftLo_off h hij, delta, if_neg hij, EReal.coe_zero, mul_zero, zero_add, invSqrtE_off h hij]

end

/-! ## The result, whatever the vectors -/

section
variable (x : Vec Ideal S32768x3x1024 .f32) (b : Fin 32768)

/-- The inverse square root of the covariance. -/
theorem root_eq (i j : Fin 3) : val_main_v282 (F := Ideal) x (ix3 b i j) = invSqrtE (covE (batchRows x b)) i j := by
  rcases covE_cases (batchRows x b) with ⟨A, h⟩ | h
  · exact (invSqrt_eq h i j).trans (invSqrtE_real h i j).symm
  · exact far_invSqrt h i j

/-- The whitened vectors. -/
theorem white_eq (n : Fin 3) (l : Fin 1024) :
    val_main_v283 (F := Ideal) x (ix3 b n l) = whiteE (batchRows x b) n l := by
  pointwise [val_main_v283]
  simp only [root_eq, centred_eq]
  rfl

/-- The result: the whitened vectors times the weight. -/
theorem result_apply (w : Vec Ideal S1024 .f32) (n : Fin 3) (l : Fin 1024) :
    val_main_v286 (F := Ideal) x w (ix3 b n l) = whiteE (batchRows x b) n l * w (ix1 l) := by
  pointwise [val_main_v286, val_main_v285, val_main_v284]
  rw [white_eq]

end

end Cert.ReferenceIdeal.Reading

end
-- ==== Proof.lean ====
/-
  The proof of `Cert.Claim`. The frames are the generated runs' frames. The kernel and the reference are compared
  through the functions of `Proof/Extended.lean`: `Proof/Arrays.lean` reads the kernel's result as the whitened vectors
  times the weight, `Proof/Reference.lean` reads the reference's result as the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Post_finite_result
public import proofs.«01_k».proof.Proof.Arrays
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference declares no semaphore, so its run ends with every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems rfl r.2⟩) (Cert.ReferenceIdeal.Value.run m ρ)

/-- The reference's result as a whole: the whitened vectors times the weight. -/
theorem reference_eq (x : Vec Ideal Cert.ReferenceIdeal.S32768x3x1024 .f32) (w : Vec Ideal Cert.ReferenceIdeal.S1024 .f32) :
    Cert.ReferenceIdeal.Read.val_main_v286 (F := Ideal) x w = Cert.KernelIdeal.Arrays.stacked x w := by
  funext (i : Cert.ReferenceIdeal.S32768x3x1024.Idx)
  have hi : ix3 (i 0) (i 1) (i 2) = i :=
    funext fun a => by match a with | ⟨0, _⟩ => rfl | ⟨1, _⟩ => rfl | ⟨2, _⟩ => rfl
  rw [← hi]
  exact Cert.ReferenceIdeal.Reading.result_apply x (i 0) w (i 1) (i 2)

/-- The kernel and the reference compute the same result, whatever the input vectors and the weight. -/
theorem algebraic : algebraic_KernelIdeal_ReferenceIdeal := by
  intro m g m' g' _ hm
  refine ⟨fun c => Cert.KernelIdeal.Arrays.stacked (Cert.KernelIdeal.Arrays.xin m c) (Cert.KernelIdeal.Arrays.win m c),
    Cert.KernelIdeal.Arrays.run m g, ?_⟩
  refine (θ_run _ _ _).mono (fun r h c => ⟨(h c).1.trans ?_, (h c).2⟩) (Cert.ReferenceIdeal.Value.run m' g')
  refine (Cert.ReferenceIdeal.Read.val_main_v286_eq (StableHlo.launchContents m' c)).trans ?_
  rw [StableHlo.launchContents_devRef, StableHlo.launchContents_devRef]
  refine (congrArg₂ (Cert.ReferenceIdeal.Read.val_main_v286 (F := Ideal)) (hm c).1 (hm c).2).trans ?_
  exact reference_eq _ _

/-- An extended real whose absolute value lies below the infinite word's value is a real number. -/
theorem real_of_bounded (a : EReal)
    (h : Ideal.cmp .olt (FloatOps.hostAbsf (F := Ideal) (φ := .f32) a) (Ideal.ofBits .f32 0x7F800000#32) = 1#1) :
    a = ((a.toReal : ℝ) : EReal) := by
  have e : Ideal.ofBits .f32 0x7F800000#32 = ⊤ := by simp [Ideal.ofBits, Ideal.ieee]
  rw [e, Ideal.hostAbsf_def, Ideal.absf_def] at h
  refine (EReal.coe_toReal ?_ ?_).symm
  · rintro rfl; revert h; simp [Ideal.cmp]
  · rintro rfl; revert h; simp [Ideal.cmp]

/-- The absolute value of a real number lies below the infinite word's value. -/
theorem bounded_of_real (a : ℝ) :
    Ideal.cmp .olt (FloatOps.hostAbsf (F := Ideal) (φ := .f32) (a : EReal)) (Ideal.ofBits .f32 0x7F800000#32) = 1#1 := by
  have e : Ideal.ofBits .f32 0x7F800000#32 = ⊤ := by simp [Ideal.ofBits, Ideal.ieee]
  rw [e, Ideal.hostAbsf_def, Cert.Whiten.absf_coe]
  simp [Ideal.cmp, EReal.coe_lt_top]

/-- On finite input vectors and a finite weight every entry of the kernel's result is finite. -/
theorem finite_result : holds_KernelIdeal_finite_result_pre_finite := by
  intro m g hpre
  refine (θ_run _ _ _).mono (fun r h c => ⟨(h c).2.1, (h c).2.2, ?_⟩) (Cert.KernelIdeal.Arrays.run m g)
  rw [(h c).1]
  funext (i : Cert.KernelIdeal.S32768x3x1024.Idx)
  have hx : ∀ n l, Cert.KernelIdeal.Arrays.batchRows (Cert.KernelIdeal.Arrays.xin m c) (i 0) n l
      = (((Cert.KernelIdeal.Arrays.xin m c (ix3 (i 0) n l)).toReal : ℝ) : EReal) :=
    fun n l => real_of_bounded _ (congrFun (hpre c).1 (ix3 (i 0) n l))
  have hw := real_of_bounded _ (congrFun (hpre c).2 (ix1 (i 2)))
  have e : Cert.KernelIdeal.Arrays.stacked (Cert.KernelIdeal.Arrays.xin m c) (Cert.KernelIdeal.Arrays.win m c) i
      = ((Cert.Whiten.white (fun n l => (Cert.KernelIdeal.Arrays.xin m c (ix3 (i 0) n l)).toReal) (i 1) (i 2)
          * (Cert.KernelIdeal.Arrays.win m c (ix1 (i 2))).toReal : ℝ) : EReal) := by
    exact (congrArg₂ (· * ·) (Cert.Whiten.whiteE_real hx (i 1) (i 2)) hw).trans (EReal.coe_mul _ _).symm
  show Ideal.cmp .olt (FloatOps.hostAbsf (F := Ideal) (φ := .f32)
    (Cert.KernelIdeal.Arrays.stacked (Cert.KernelIdeal.Arrays.xin m c) (Cert.KernelIdeal.Arrays.win m c) i))
    (Ideal.ofBits .f32 0x7F800000#32) = 1#1
  rw [e]
  exact bounded_of_real _

/-- Each named constant is the rule's statement at its float literal and its value. -/
theorem preserves : preserves_Kernel_KernelIdeal :=
  ⟨IdealRules.named_const.statement Cert.KernelIdeal.κ "third" .f32 0x3EAAAAAB#32 _ rfl,
    IdealRules.named_const.statement Cert.KernelIdeal.κ "sixth" .f32 0x3E2AAAAB#32 _ rfl,
    IdealRules.named_const.statement Cert.KernelIdeal.κ "cos8" .f32 0x37D00D01#32 _ rfl,
    IdealRules.named_const.statement Cert.KernelIdeal.κ "cos6" .f32 0xBAB60B61#32 _ rfl,
    IdealRules.named_const.statement Cert.KernelIdeal.κ "cos4" .f32 0x3D2AAAAB#32 _ rfl,
    IdealRules.named_const.statement Cert.KernelIdeal.κ "sin9" .f32 0x3638EF1D#32 _ rfl,
    IdealRules.named_const.statement Cert.KernelIdeal.κ "sin7" .f32 0xB9500D01#32 _ rfl,
    IdealRules.named_const.statement Cert.KernelIdeal.κ "sin5" .f32 0x3C088889#32 _ rfl,
    IdealRules.named_const.statement Cert.KernelIdeal.κ "sin3" .f32 0xBE2AAAAB#32 _ rfl,
    IdealRules.named_const.statement Cert.KernelIdeal.κ "sqrt3" .f32 0x3FDDB3D7#32 _ rfl⟩

/-- Every claim of the certificate. -/
theorem claim : Cert.Claim :=
  ⟨Cert.Kernel.Gen.facts, Cert.KernelIdeal.Gen.facts, Cert.ReferenceIdeal.Gen.facts, Cert.Pre_finite.Gen.facts,
    Cert.Post_finite_result.Gen.facts, fun m ρ _ => Cert.Kernel.Gen.frame m ρ, fun m ρ _ => Cert.KernelIdeal.Gen.frame m ρ,
    fun m ρ _ => Cert.KernelIdeal.Gen.frame m ρ, fun m ρ _ => frame_reference m ρ, preserves, algebraic, finite_result⟩

end Cert.Proof

end
